-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_boxes [hPre_finite_boxes : Cert.Pre_finite_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_boxes [hPre_finite_boxes : Cert.Pre_finite_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_boxes [hKernelIdeal : Cert.KernelIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_boxes [hReferenceIdeal : Cert.ReferenceIdeal.Facts] [hPre_finite_boxes : Cert.Pre_finite_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_boxes [hKernelIdeal : Cert.KernelIdeal.Facts] [hReferenceIdeal : Cert.ReferenceIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_boxes : Cert.Pre_finite_boxes.Facts),
    quiescent_Kernel (hKernel := hKernel)
    ∧ quiescent_KernelIdeal (hKernelIdeal := hKernelIdeal)
    ∧ quiescent_KernelIdeal_pre_finite_boxes (hKernelIdeal := hKernelIdeal) (hPre_finite_boxes := hPre_finite_boxes)
    ∧ quiescent_ReferenceIdeal (hReferenceIdeal := hReferenceIdeal)
    ∧ quiescent_ReferenceIdeal_pre_finite_boxes (hReferenceIdeal := hReferenceIdeal) (hPre_finite_boxes := hPre_finite_boxes)
    ∧ preserves_Kernel_KernelIdeal
    ∧ algebraic_KernelIdeal_ReferenceIdeal_pre_finite_boxes (hKernelIdeal := hKernelIdeal) (hReferenceIdeal := hReferenceIdeal) (hPre_finite_boxes := hPre_finite_boxes)
-- ==== Pre_finite_boxes.lean ====
abbrev S8x20000x80 : Shape := ⟨3, ![8, 20000, 80]⟩
abbrev S8x20000x4 : Shape := ⟨3, ![8, 20000, 4]⟩
abbrev S8x2 : Shape := ⟨2, ![8, 2]⟩
abbrev S_ : Shape := ⟨0, ![]⟩

class Facts : Prop where
  bcast_S_S8x20000x4 : S_.BroadcastsInDim S8x20000x4 (![] : Fin 0 → Fin S8x20000x4.rank)

variable [Facts]

def fn {F : FTy → Type} [FloatOps F] (main_arg0 : FVec F S8x20000x80 .f32) (main_arg1 : FVec F S8x20000x4 .f32) (main_arg2 : IVec S8x2 32) : IVec S8x20000x4 1 :=
  let main_v0 : FVec F S8x20000x4 .f32 := Host.absf main_arg1
  let main_cst : FVec F S_ .f32 := constant S_ .f32 0x7F800000#32
  let main_v1 : FVec F S8x20000x4 .f32 := broadcastInDim S8x20000x4 ![] bcast_S_S8x20000x4 main_cst
  let main_v2 : IVec S8x20000x4 1 := cmpf .olt main_v0 main_v1
  main_v2
-- ==== Kernel.lean ====
abbrev S8x20000x80 : Shape := ⟨3, ![8, 20000, 80]⟩
abbrev S8x20000x4 : Shape := ⟨3, ![8, 20000, 4]⟩
abbrev S8x2 : Shape := ⟨2, ![8, 2]⟩
abbrev S8x4x20000 : Shape := ⟨3, ![8, 4, 20000]⟩
abbrev S8x20 : Shape := ⟨2, ![8, 20]⟩
abbrev S8x20x4 : Shape := ⟨3, ![8, 20, 4]⟩
abbrev S1x1024x80 : Shape := ⟨3, ![1, 1024, 80]⟩
abbrev S1x4x1024 : Shape := ⟨3, ![1, 4, 1024]⟩
abbrev S8x20x8x128 : Shape := ⟨4, ![8, 20, 8, 128]⟩
abbrev S8x4x20x8x128 : Shape := ⟨5, ![8, 4, 20, 8, 128]⟩
abbrev S8x4x1024 : Shape := ⟨3, ![8, 4, 1024]⟩
abbrev S1024x80 : Shape := ⟨2, ![1024, 80]⟩
abbrev S1024 : Shape := ⟨1, ![1024]⟩
abbrev S1024x1 : Shape := ⟨2, ![1024, 1]⟩
abbrev S1x1024 : Shape := ⟨2, ![1, 1024]⟩
abbrev S8x128 : Shape := ⟨2, ![8, 128]⟩
abbrev S1x1x8x128 : Shape := ⟨4, ![1, 1, 8, 128]⟩
abbrev S4x1024 : Shape := ⟨2, ![4, 1024]⟩
abbrev S2x1024 : Shape := ⟨2, ![2, 1024]⟩
abbrev S1x1 : Shape := ⟨2, ![1, 1]⟩
abbrev S4x8x128 : Shape := ⟨3, ![4, 8, 128]⟩
abbrev S1x4x1x8x128 : Shape := ⟨5, ![1, 4, 1, 8, 128]⟩
abbrev S8x160x128 : Shape := ⟨3, ![8, 160, 128]⟩
abbrev S8x1x20x8x128 : Shape := ⟨5, ![8, 1, 20, 8, 128]⟩
abbrev S8 : Shape := ⟨1, ![8]⟩
abbrev S8x1x1 : Shape := ⟨3, ![8, 1, 1]⟩
abbrev S8x1 : Shape := ⟨2, ![8, 1]⟩
abbrev S8x20x1 : Shape := ⟨3, ![8, 20, 1]⟩

abbrev nBuf : Space → Nat
  | .hbm => 7
  | .vmem => 11
  | .smem => 1
  | _ => 0

abbrev bufTy : (tb : Table) → Fin (tcTables nBuf tb) → BufTy
  | .hbm, ⟨0, _⟩ => ⟨S8x20000x80, .f32⟩
  | .hbm, ⟨1, _⟩ => ⟨S8x20000x4, .f32⟩
  | .hbm, ⟨2, _⟩ => ⟨S8x2, .i32⟩
  | .hbm, ⟨3, _⟩ => ⟨S8x4x20000, .f32⟩
  | .hbm, ⟨4, _⟩ => ⟨S8x20, .i32⟩
  | .hbm, ⟨5, _⟩ => ⟨S8x20x4, .f32⟩
  | .hbm, ⟨6, _⟩ => ⟨S8x20, .f32⟩
  | .local _ .vmem, ⟨0, _⟩ => ⟨S1x1024x80, .f32⟩
  | .local _ .vmem, ⟨1, _⟩ => ⟨S1x1024x80, .f32⟩
  | .local _ .vmem, ⟨2, _⟩ => ⟨S1x4x1024, .f32⟩
  | .local _ .vmem, ⟨3, _⟩ => ⟨S1x4x1024, .f32⟩
  | .local _ .vmem, ⟨4, _⟩ => ⟨S8x20, .i32⟩
  | .local _ .vmem, ⟨5, _⟩ => ⟨S8x20x4, .f32⟩
  | .local _ .vmem, ⟨6, _⟩ => ⟨S8x20, .f32⟩
  | .local _ .vmem, ⟨7, _⟩ => ⟨S8x20x8x128, .f32⟩
  | .local _ .vmem, ⟨8, _⟩ => ⟨S8x20x8x128, .i32⟩
  | .local _ .vmem, ⟨9, _⟩ => ⟨S8x4x20x8x128, .f32⟩
  | .local _ .vmem, ⟨10, _⟩ => ⟨S8x4x1024, .f32⟩
  | .local _ .smem, ⟨0, _⟩ => ⟨S8x2, .i32⟩
  | _, _ => ⟨S8x20000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![8, 20], ![false, false]⟩

def k0_off1 (i : grid0.Coords) : Fin 4 → Nat :=
  let arg0 : BitVec 32 := BitVec.ofNat 32 (i 0).val
  let v24 : Index := Scalar.indexCast arg0
  let arg1 : BitVec 32 := BitVec.ofNat 32 (i 1).val
  let v25 : Index := Scalar.indexCast arg1
  let c0_5 : Index := 0#32
  let c0_6 : Index := 0#32
  ![v24.toNat, v25.toNat, 0, 0]
def k0_off2 (i : grid0.Coords) : Fin 2 → Nat :=
  let arg0 : BitVec 32 := BitVec.ofNat 32 (i 0).val
  let v49 : Index := Scalar.indexCast arg0
  let c0_14 : Index := 0#32
  ![v49.toNat, 0]
def k0_off3 (i : grid0.Coords) : Fin 2 → Nat :=
  let arg0 : BitVec 32 := BitVec.ofNat 32 (i 0).val
  let v52 : Index := Scalar.indexCast arg0
  let c1 : Index := 1#32
  ![v52.toNat, 1]
def k0_off4 (i : grid0.Coords) : Fin 5 → Nat :=
  let arg0 : BitVec 32 := BitVec.ofNat 32 (i 0).val
  let v86 : Index := Scalar.indexCast arg0
  let c0_23 : Index := 0#32
  let arg1 : BitVec 32 := BitVec.ofNat 32 (i 1).val
  let v87 : Index := Scalar.indexCast arg1
  let c0_24 : Index := 0#32
  let c0_25 : Index := 0#32
  ![v86.toNat, 0, v87.toNat, 0, 0]
def k0_cond1 (i : grid0.Coords) : BitVec 1 :=
  let arg1 : BitVec 32 := BitVec.ofNat 32 (i 1).val
  let c0_i32_26 : BitVec 32 := 0#32
  let v92 : BitVec 1 := Scalar.cmpi .eq arg1 c0_i32_26
  let v93 : BitVec 32 := Scalar.extui v92
  let c0_i32_27 : BitVec 32 := 0#32
  let v94 : BitVec 1 := Scalar.cmpi .ne v93 c0_i32_27
  v94

def k0_off5 (i : grid0.Coords) : Fin 3 → Nat :=
  let arg0 : BitVec 32 := BitVec.ofNat 32 (i 0).val
  let v103 : Index := Scalar.indexCast arg0
  let c0_31 : Index := 0#32
  let c0_32 : Index := 0#32
  ![v103.toNat, 0, 0]
def k0_cond2 (i : grid0.Coords) : BitVec 1 :=
  let arg1 : BitVec 32 := BitVec.ofNat 32 (i 1).val
  let c0_i32_28 : BitVec 32 := 0#32
  let v95 : BitVec 1 := Scalar.cmpi .sgt arg1 c0_i32_28
  let v96 : BitVec 32 := Scalar.extui v95
  let c0_i32_29 : BitVec 32 := 0#32
  let v97 : BitVec 1 := Scalar.cmpi .ne v96 c0_i32_29
  v97

def k0_off6 (i : grid0.Coords) : Fin 3 → Nat :=
  let arg0 : BitVec 32 := BitVec.ofNat 32 (i 0).val
  let v103 : Index := Scalar.indexCast arg0
  let c0_31 : Index := 0#32
  let c0_32 : Index := 0#32
  ![v103.toNat, 0, 0]
def k0_cond3 (i : grid0.Coords) : BitVec 1 :=
  let arg0 : BitVec 32 := BitVec.ofNat 32 (i 0).val
  let c7_i32 : BitVec 32 := 7#32
  let v98 : BitVec 1 := Scalar.cmpi .eq arg0 c7_i32
  let arg1 : BitVec 32 := BitVec.ofNat 32 (i 1).val
  let c19_i32 : BitVec 32 := 19#32
  let v99 : BitVec 1 := Scalar.cmpi .eq arg1 c19_i32
  let v100 : BitVec 1 := Scalar.andi v98 v99
  let v101 : BitVec 32 := Scalar.extui v100
  let c0_i32_30 : BitVec 32 := 0#32
  let v102 : BitVec 1 := Scalar.cmpi .ne v101 c0_i32_30
  v102

@[reducible] def k0_t1_loop : Scf.Loop 32 :=
  let c0_i32_51 : BitVec 32 := 0#32
  let c20_i32 : BitVec 32 := 20#32
  let v143 : BitVec 32 := Scalar.addi c0_i32_51 c20_i32
  let c1_i32_52 : BitVec 32 := 1#32
  ⟨c0_i32_51, v143, c1_i32_52⟩
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x20 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x20x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S8x20000x80 : Shape := ⟨3, ![8, 20000, 80]⟩
abbrev S8x20000x4 : Shape := ⟨3, ![8, 20000, 4]⟩
abbrev S8x2 : Shape := ⟨2, ![8, 2]⟩
abbrev S8x20000x1 : Shape := ⟨3, ![8, 20000, 1]⟩
abbrev S_ : Shape := ⟨0, ![]⟩
abbrev S8x4 : Shape := ⟨2, ![8, 4]⟩
abbrev S8x1x4 : Shape := ⟨3, ![8, 1, 4]⟩
abbrev S8x20000 : Shape := ⟨2, ![8, 20000]⟩
abbrev S8 : Shape := ⟨1, ![8]⟩
abbrev S8x1 : Shape := ⟨2, ![8, 1]⟩
abbrev S20x8 : Shape := ⟨2, ![20, 8]⟩
abbrev S20x8x4 : Shape := ⟨3, ![20, 8, 4]⟩
abbrev S8x1x1 : Shape := ⟨3, ![8, 1, 1]⟩
abbrev S20000 : Shape := ⟨1, ![20000]⟩
abbrev S1x20000 : Shape := ⟨2, ![1, 20000]⟩
abbrev S1x8 : Shape := ⟨2, ![1, 8]⟩
abbrev S1x8x4 : Shape := ⟨3, ![1, 8, 4]⟩
abbrev S8x20 : Shape := ⟨2, ![8, 20]⟩
abbrev S8x20x4 : Shape := ⟨3, ![8, 20, 4]⟩

abbrev nBuf : Space → Nat
  | .hbm => 233
  | .vmem => 0
  | .smem => 0
  | _ => 0

abbrev hbmTy0_0 (i : Nat) : BufTy := match i % 128 with
  | 0 => ⟨S8x20000x80, .f32⟩
  | 1 => ⟨S8x20000x4, .f32⟩
  | 2 => ⟨S8x2, .i32⟩
  | 3 => ⟨S8x20000x1, .f32⟩
  | 4 => ⟨S8x20000x1, .f32⟩
  | 5 => ⟨S8x20000x1, .f32⟩
  | 6 => ⟨S8x20000x1, .f32⟩
  | 7 => ⟨S_, .f32⟩
  | 8 => ⟨S8x20000x1, .f32⟩
  | 9 => ⟨S8x20000x1, .f32⟩
  | 10 => ⟨S8x20000x1, .f32⟩
  | 11 => ⟨S_, .f32⟩
  | 12 => ⟨S8x20000x1, .f32⟩
  | 13 => ⟨S8x20000x1, .f32⟩
  | 14 => ⟨S8x20000x1, .f32⟩
  | 15 => ⟨S_, .f32⟩
  | 16 => ⟨S8x20000x1, .f32⟩
  | 17 => ⟨S8x20000x1, .f32⟩
  | 18 => ⟨S8x20000x1, .f32⟩
  | 19 => ⟨S_, .f32⟩
  | 20 => ⟨S8x20000x1, .f32⟩
  | 21 => ⟨S8x20000x1, .f32⟩
  | 22 => ⟨S8x20000x1, .f32⟩
  | 23 => ⟨S8x20000x4, .f32⟩
  | 24 => ⟨S8x2, .f32⟩
  | 25 => ⟨S8x4, .f32⟩
  | 26 => ⟨S8x1x4, .f32⟩
  | 27 => ⟨S8x20000x4, .f32⟩
  | 28 => ⟨S8x20000x4, .f32⟩
  | 29 => ⟨S8x20000x1, .f32⟩
  | 30 => ⟨S8x20000x1, .i32⟩
  | 31 => ⟨S8x20000, .f32⟩
  | 32 => ⟨S8x20000, .i32⟩
  | 33 => ⟨S8x20000, .f32⟩
  | 34 => ⟨S8x20000, .f32⟩
  | 35 => ⟨S_, .f32⟩
  | 36 => ⟨S8x20000, .f32⟩
  | 37 => ⟨S8x20000, .f32⟩
  | 38 => ⟨S_, .f32⟩
  | 39 => ⟨S8x20000, .f32⟩
  | 40 => ⟨S8x20000, .f32⟩
  | 41 => ⟨S_, .f32⟩
  | 42 => ⟨S8x20000, .f32⟩
  | 43 => ⟨S8x20000, .i1⟩
  | 44 => ⟨S_, .f32⟩
  | 45 => ⟨S_, .f32⟩
  | 46 => ⟨S8x20000, .f32⟩
  | 47 => ⟨S8x20000, .f32⟩
  | 48 => ⟨S8x20000x4, .f32⟩
  | 49 => ⟨S_, .f32⟩
  | 50 => ⟨S8, .f32⟩
  | 51 => ⟨S_, .f32⟩
  | 52 => ⟨S8, .f32⟩
  | 53 => ⟨S8, .f32⟩
  | 54 => ⟨S8x20000, .f32⟩
  | 55 => ⟨S8x1, .f32⟩
  | 56 => ⟨S8x20000, .f32⟩
  | 57 => ⟨S8x20000, .f32⟩
  | 58 => ⟨S8x20000x1, .f32⟩
  | 59 => ⟨S8x20000x4, .f32⟩
  | 60 => ⟨S8x20000x4, .f32⟩
  | 61 => ⟨S_, .i32⟩
  | 62 => ⟨S20x8, .i32⟩
  | 63 => ⟨S_, .f32⟩
  | 64 => ⟨S20x8x4, .f32⟩
  | 65 => ⟨S_, .f32⟩
  | 66 => ⟨S20x8, .f32⟩
  | 67 => ⟨S_, .i32⟩
  | 68 => ⟨S8x20000x4, .f32⟩
  | 69 => ⟨S8x20000, .i32⟩
  | 70 => ⟨S8x20000x4, .f32⟩
  | 71 => ⟨S_, .i32⟩
  | 72 => ⟨S8x20000, .f32⟩
  | 73 => ⟨S20x8, .i32⟩
  | 74 => ⟨S20x8x4, .f32⟩
  | 75 => ⟨S20x8, .f32⟩
  | 76 => ⟨S_, .i32⟩
  | 77 => ⟨S_, .i1⟩
  | 78 => ⟨S8x1, .f32⟩
  | 79 => ⟨S8x1, .i32⟩
  | 80 => ⟨S8, .f32⟩
  | 81 => ⟨S8, .i32⟩
  | 82 => ⟨S8, .i32⟩
  | 83 => ⟨S_, .i32⟩
  | 84 => ⟨S8, .i32⟩
  | 85 => ⟨S8, .i1⟩
  | 86 => ⟨S_, .i32⟩
  | 87 => ⟨S8, .i32⟩
  | 88 => ⟨S8, .i32⟩
  | 89 => ⟨S8, .i32⟩
  | 90 => ⟨S_, .i32⟩
  | 91 => ⟨S8, .i32⟩
  | 92 => ⟨S8, .i1⟩
  | 93 => ⟨S_, .i32⟩
  | 94 => ⟨S8, .i32⟩
  | 95 => ⟨S8, .i32⟩
  | 96 => ⟨S8, .i32⟩
  | 97 => ⟨S8x1, .i32⟩
  | 98 => ⟨S8x1, .i32⟩
  | 99 => ⟨S8x2, .i32⟩
  | 100 => ⟨S8x4, .f32⟩
  | 101 => ⟨S8x1x4, .f32⟩
  | 102 => ⟨S8x1x1, .f32⟩
  | 103 => ⟨S8x1, .f32⟩
  | 104 => ⟨S8x20000x1, .f32⟩
  | 105 => ⟨S8x20000, .f32⟩
  | 106 => ⟨S8x20000, .f32⟩
  | 107 => ⟨S8x20000, .f32⟩
  | 108 => ⟨S8x1x1, .f32⟩
  | 109 => ⟨S8x1, .f32⟩
  | 110 => ⟨S8x20000x1, .f32⟩
  | 111 => ⟨S8x20000, .f32⟩
  | 112 => ⟨S8x20000, .f32⟩
  | 113 => ⟨S8x20000, .f32⟩
  | 114 => ⟨S8x1x1, .f32⟩
  | 115 => ⟨S8x1, .f32⟩
  | 116 => ⟨S8x20000x1, .f32⟩
  | 117 => ⟨S8x20000, .f32⟩
  | 118 => ⟨S8x20000, .f32⟩
  | 119 => ⟨S8x20000, .f32⟩
  | 120 => ⟨S8x1x1, .f32⟩
  | 121 => ⟨S8x1, .f32⟩
  | 122 => ⟨S8x20000x1, .f32⟩
  | 123 => ⟨S8x20000, .f32⟩
  | 124 => ⟨S8x20000, .f32⟩
  | 125 => ⟨S8x20000, .f32⟩
  | 126 => ⟨S8x20000, .f32⟩
  | 127 => ⟨S_, .f32⟩
  | _ => ⟨S8x20000x80, .f32⟩

abbrev hbmTy0_1 (i : Nat) : BufTy := match i % 128 with
  | 0 => ⟨S_, .f32⟩
  | 1 => ⟨S8x20000, .f32⟩
  | 2 => ⟨S8x20000, .f32⟩
  | 3 => ⟨S8x20000, .f32⟩
  | 4 => ⟨S_, .f32⟩
  | 5 => ⟨S_, .f32⟩
  | 6 => ⟨S8x20000, .f32⟩
  | 7 => ⟨S8x20000, .f32⟩
  | 8 => ⟨S8x20000, .f32⟩
  | 9 => ⟨S8x1x1, .f32⟩
  | 10 => ⟨S8x1, .f32⟩
  | 11 => ⟨S8x1x1, .f32⟩
  | 12 => ⟨S8x1, .f32⟩
  | 13 => ⟨S8x1, .f32⟩
  | 14 => ⟨S8x1x1, .f32⟩
  | 15 => ⟨S8x1, .f32⟩
  | 16 => ⟨S8x1x1, .f32⟩
  | 17 => ⟨S8x1, .f32⟩
  | 18 => ⟨S8x1, .f32⟩
  | 19 => ⟨S8x1, .f32⟩
  | 20 => ⟨S8x20000x1, .f32⟩
  | 21 => ⟨S8x20000, .f32⟩
  | 22 => ⟨S8x20000x1, .f32⟩
  | 23 => ⟨S8x20000, .f32⟩
  | 24 => ⟨S8x20000, .f32⟩
  | 25 => ⟨S8x20000x1, .f32⟩
  | 26 => ⟨S8x20000, .f32⟩
  | 27 => ⟨S8x20000x1, .f32⟩
  | 28 => ⟨S8x20000, .f32⟩
  | 29 => ⟨S8x20000, .f32⟩
  | 30 => ⟨S8x20000, .f32⟩
  | 31 => ⟨S8x20000, .f32⟩
  | 32 => ⟨S8x20000, .f32⟩
  | 33 => ⟨S8x20000, .f32⟩
  | 34 => ⟨S_, .f32⟩
  | 35 => ⟨S8x20000, .f32⟩
  | 36 => ⟨S8x20000, .f32⟩
  | 37 => ⟨S8x20000, .f32⟩
  | 38 => ⟨S_, .f32⟩
  | 39 => ⟨S8x20000, .f32⟩
  | 40 => ⟨S8x20000, .i1⟩
  | 41 => ⟨S20000, .i32⟩
  | 42 => ⟨S8x1, .i32⟩
  | 43 => ⟨S1x20000, .i32⟩
  | 44 => ⟨S8x20000, .i32⟩
  | 45 => ⟨S8x20000, .i32⟩
  | 46 => ⟨S8x20000, .i1⟩
  | 47 => ⟨S8x20000, .i1⟩
  | 48 => ⟨S_, .f32⟩
  | 49 => ⟨S_, .f32⟩
  | 50 => ⟨S8x20000, .f32⟩
  | 51 => ⟨S8x20000, .f32⟩
  | 52 => ⟨S8, .i32⟩
  | 53 => ⟨S_, .i32⟩
  | 54 => ⟨S8, .i32⟩
  | 55 => ⟨S8, .i1⟩
  | 56 => ⟨S_, .i32⟩
  | 57 => ⟨S8, .i32⟩
  | 58 => ⟨S8, .i32⟩
  | 59 => ⟨S8, .i32⟩
  | 60 => ⟨S_, .i32⟩
  | 61 => ⟨S8, .i32⟩
  | 62 => ⟨S8, .i1⟩
  | 63 => ⟨S_, .i32⟩
  | 64 => ⟨S8, .i32⟩
  | 65 => ⟨S8, .i32⟩
  | 66 => ⟨S8, .i32⟩
  | 67 => ⟨S8x1, .i32⟩
  | 68 => ⟨S8x1, .i32⟩
  | 69 => ⟨S8x2, .i32⟩
  | 70 => ⟨S8, .i32⟩
  | 71 => ⟨S8, .i32⟩
  | 72 => ⟨S_, .i32⟩
  | 73 => ⟨S8, .i32⟩
  | 74 => ⟨S8, .i1⟩
  | 75 => ⟨S_, .i32⟩
  | 76 => ⟨S8, .i32⟩
  | 77 => ⟨S8, .i32⟩
  | 78 => ⟨S8, .i32⟩
  | 79 => ⟨S_, .i32⟩
  | 80 => ⟨S8, .i32⟩
  | 81 => ⟨S8, .i1⟩
  | 82 => ⟨S_, .i32⟩
  | 83 => ⟨S8, .i32⟩
  | 84 => ⟨S8, .i32⟩
  | 85 => ⟨S8, .i32⟩
  | 86 => ⟨S8x1, .i32⟩
  | 87 => ⟨S8x1, .i32⟩
  | 88 => ⟨S8x2, .i32⟩
  | 89 => ⟨S8x4, .f32⟩
  | 90 => ⟨S1x8, .i32⟩
  | 91 => ⟨S_, .i32⟩
  | 92 => ⟨S20x8, .i32⟩
  | 93 => ⟨S1x8x4, .f32⟩
  | 94 => ⟨S_, .i32⟩
  | 95 => ⟨S_, .i32⟩
  | 96 => ⟨S20x8x4, .f32⟩
  | 97 => ⟨S1x8, .f32⟩
  | 98 => ⟨S_, .i32⟩
  | 99 => ⟨S20x8, .f32⟩
  | 100 => ⟨S_, .i32⟩
  | 101 => ⟨S_, .i32⟩
  | 102 => ⟨S8x20, .i32⟩
  | 103 => ⟨S8x20x4, .f32⟩
  | 104 => ⟨S8x20, .f32⟩
  | _ => ⟨S8x20000x80, .f32⟩

abbrev hbmTy (i : Nat) : BufTy := match i / 128 with
  | 0 => hbmTy0_0 i
  | 1 => hbmTy0_1 i
  | _ => ⟨S8x20000x80, .f32⟩

abbrev bufTy : (tb : Table) → Fin (tcTables nBuf tb) → BufTy
  | .hbm, ⟨i, _⟩ => hbmTy i
  | _, _ => ⟨S8x20000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_values : Ref sig .tc := ⟨.hbm, 29, rfl⟩
abbrev main_indices : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_call0_v0 : Ref sig .tc := ⟨.hbm, 45, rfl⟩
abbrev main_call0_v1 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_c_11 : Ref sig .tc := ⟨.hbm, 67, rfl⟩
abbrev main_v47_0 : Ref sig .tc := ⟨.hbm, 68, rfl⟩
abbrev main_v47_1 : Ref sig .tc := ⟨.hbm, 69, rfl⟩
abbrev main_v47_2 : Ref sig .tc := ⟨.hbm, 70, rfl⟩
abbrev main_v47_3 : Ref sig .tc := ⟨.hbm, 71, rfl⟩
abbrev main_v47_4 : Ref sig .tc := ⟨.hbm, 72, rfl⟩
abbrev main_v47_5 : Ref sig .tc := ⟨.hbm, 73, rfl⟩
abbrev main_v47_6 : Ref sig .tc := ⟨.hbm, 74, rfl⟩
abbrev main_v47_7 : Ref sig .tc := ⟨.hbm, 75, rfl⟩
abbrev main_while0c_c_19 : Ref sig .tc := ⟨.hbm, 76, rfl⟩
abbrev main_while0c_v51 : Ref sig .tc := ⟨.hbm, 77, rfl⟩
abbrev main_while0b_values_19 : Ref sig .tc := ⟨.hbm, 78, rfl⟩
abbrev main_while0b_indices_20 : Ref sig .tc := ⟨.hbm, 79, rfl⟩
abbrev main_while0b_v51 : Ref sig .tc := ⟨.hbm, 80, rfl⟩
abbrev main_while0b_v52 : Ref sig .tc := ⟨.hbm, 81, rfl⟩
abbrev main_while0b_v53 : Ref sig .tc := ⟨.hbm, 82, rfl⟩
abbrev main_while0b_c_21 : Ref sig .tc := ⟨.hbm, 83, rfl⟩
abbrev main_while0b_v54 : Ref sig .tc := ⟨.hbm, 84, rfl⟩
abbrev main_while0b_v55 : Ref sig .tc := ⟨.hbm, 85, rfl⟩
abbrev main_while0b_c_22 : Ref sig .tc := ⟨.hbm, 86, rfl⟩
abbrev main_while0b_v56 : Ref sig .tc := ⟨.hbm, 87, rfl⟩
abbrev main_while0b_v57 : Ref sig .tc := ⟨.hbm, 88, rfl⟩
abbrev main_while0b_v58 : Ref sig .tc := ⟨.hbm, 89, rfl⟩
abbrev main_while0b_c_23 : Ref sig .tc := ⟨.hbm, 90, rfl⟩
abbrev main_while0b_v59 : Ref sig .tc := ⟨.hbm, 91, rfl⟩
abbrev main_while0b_v60 : Ref sig .tc := ⟨.hbm, 92, rfl⟩
abbrev main_while0b_c_24 : Ref sig .tc := ⟨.hbm, 93, rfl⟩
abbrev main_while0b_v61 : Ref sig .tc := ⟨.hbm, 94, rfl⟩
abbrev main_while0b_v62 : Ref sig .tc := ⟨.hbm, 95, rfl⟩
abbrev main_while0b_v63 : Ref sig .tc := ⟨.hbm, 96, rfl⟩
abbrev main_while0b_v64 : Ref sig .tc := ⟨.hbm, 97, rfl⟩
abbrev main_while0b_v65 : Ref sig .tc := ⟨.hbm, 98, rfl⟩
abbrev main_while0b_v66 : Ref sig .tc := ⟨.hbm, 99, rfl⟩
abbrev main_while0b_v67 : Ref sig .tc := ⟨.hbm, 100, rfl⟩
abbrev main_while0b_v68 : Ref sig .tc := ⟨.hbm, 101, rfl⟩
abbrev main_while0b_v69 : Ref sig .tc := ⟨.hbm, 102, rfl⟩
abbrev main_while0b_v70 : Ref sig .tc := ⟨.hbm, 103, rfl⟩
abbrev main_while0b_v71 : Ref sig .tc := ⟨.hbm, 104, rfl⟩
abbrev main_while0b_v72 : Ref sig .tc := ⟨.hbm, 105, rfl⟩
abbrev main_while0b_v73 : Ref sig .tc := ⟨.hbm, 106, rfl⟩
abbrev main_while0b_v74 : Ref sig .tc := ⟨.hbm, 107, rfl⟩
abbrev main_while0b_v75 : Ref sig .tc := ⟨.hbm, 108, rfl⟩
abbrev main_while0b_v76 : Ref sig .tc := ⟨.hbm, 109, rfl⟩
abbrev main_while0b_v77 : Ref sig .tc := ⟨.hbm, 110, rfl⟩
abbrev main_while0b_v78 : Ref sig .tc := ⟨.hbm, 111, rfl⟩
abbrev main_while0b_v79 : Ref sig .tc := ⟨.hbm, 112, rfl⟩
abbrev main_while0b_v80 : Ref sig .tc := ⟨.hbm, 113, rfl⟩
abbrev main_while0b_v81 : Ref sig .tc := ⟨.hbm, 114, rfl⟩
abbrev main_while0b_v82 : Ref sig .tc := ⟨.hbm, 115, rfl⟩
abbrev main_while0b_v83 : Ref sig .tc := ⟨.hbm, 116, rfl⟩
abbrev main_while0b_v84 : Ref sig .tc := ⟨.hbm, 117, rfl⟩
abbrev main_while0b_v85 : Ref sig .tc := ⟨.hbm, 118, rfl⟩
abbrev main_while0b_v86 : Ref sig .tc := ⟨.hbm, 119, rfl⟩
abbrev main_while0b_v87 : Ref sig .tc := ⟨.hbm, 120, rfl⟩
abbrev main_while0b_v88 : Ref sig .tc := ⟨.hbm, 121, rfl⟩
abbrev main_while0b_v89 : Ref sig .tc := ⟨.hbm, 122, rfl⟩
abbrev main_while0b_v90 : Ref sig .tc := ⟨.hbm, 123, rfl⟩
abbrev main_while0b_v91 : Ref sig .tc := ⟨.hbm, 124, rfl⟩
abbrev main_while0b_v92 : Ref sig .tc := ⟨.hbm, 125, rfl⟩
abbrev main_while0b_v93 : Ref sig .tc := ⟨.hbm, 126, rfl⟩
abbrev main_while0b_cst_25 : Ref sig .tc := ⟨.hbm, 127, rfl⟩
abbrev main_while0b_call1_v0 : Ref sig .tc := ⟨.hbm, 128, rfl⟩
abbrev main_while0b_call1_v1 : Ref sig .tc := ⟨.hbm, 129, rfl⟩
abbrev main_while0b_v94 : Ref sig .tc := ⟨.hbm, 130, rfl⟩
abbrev main_while0b_v95 : Ref sig .tc := ⟨.hbm, 131, rfl⟩
abbrev main_while0b_cst_26 : Ref sig .tc := ⟨.hbm, 132, rfl⟩
abbrev main_while0b_call2_v0 : Ref sig .tc := ⟨.hbm, 133, rfl⟩
abbrev main_while0b_call2_v1 : Ref sig .tc := ⟨.hbm, 134, rfl⟩
abbrev main_while0b_v96 : Ref sig .tc := ⟨.hbm, 135, rfl⟩
abbrev main_while0b_v97 : Ref sig .tc := ⟨.hbm, 136, rfl⟩
abbrev main_while0b_v98 : Ref sig .tc := ⟨.hbm, 137, rfl⟩
abbrev main_while0b_v99 : Ref sig .tc := ⟨.hbm, 138, rfl⟩
abbrev main_while0b_v100 : Ref sig .tc := ⟨.hbm, 139, rfl⟩
abbrev main_while0b_v101 : Ref sig .tc := ⟨.hbm, 140, rfl⟩
abbrev main_while0b_v102 : Ref sig .tc := ⟨.hbm, 141, rfl⟩
abbrev main_while0b_v103 : Ref sig .tc := ⟨.hbm, 142, rfl⟩
abbrev main_while0b_v104 : Ref sig .tc := ⟨.hbm, 143, rfl⟩
abbrev main_while0b_v105 : Ref sig .tc := ⟨.hbm, 144, rfl⟩
abbrev main_while0b_v106 : Ref sig .tc := ⟨.hbm, 145, rfl⟩
abbrev main_while0b_v107 : Ref sig .tc := ⟨.hbm, 146, rfl⟩
abbrev main_while0b_v108 : Ref sig .tc := ⟨.hbm, 147, rfl⟩
abbrev main_while0b_v109 : Ref sig .tc := ⟨.hbm, 148, rfl⟩
abbrev main_while0b_v110 : Ref sig .tc := ⟨.hbm, 149, rfl⟩
abbrev main_while0b_v111 : Ref sig .tc := ⟨.hbm, 150, rfl⟩
abbrev main_while0b_v112 : Ref sig .tc := ⟨.hbm, 151, rfl⟩
abbrev main_while0b_v113 : Ref sig .tc := ⟨.hbm, 152, rfl⟩
abbrev main_while0b_v114 : Ref sig .tc := ⟨.hbm, 153, rfl⟩
abbrev main_while0b_v115 : Ref sig .tc := ⟨.hbm, 154, rfl⟩
abbrev main_while0b_v116 : Ref sig .tc := ⟨.hbm, 155, rfl⟩
abbrev main_while0b_v117 : Ref sig .tc := ⟨.hbm, 156, rfl⟩
abbrev main_while0b_v118 : Ref sig .tc := ⟨.hbm, 157, rfl⟩
abbrev main_while0b_v119 : Ref sig .tc := ⟨.hbm, 158, rfl⟩
abbrev main_while0b_v120 : Ref sig .tc := ⟨.hbm, 159, rfl⟩
abbrev main_while0b_v121 : Ref sig .tc := ⟨.hbm, 160, rfl⟩
abbrev main_while0b_v122 : Ref sig .tc := ⟨.hbm, 161, rfl⟩
abbrev main_while0b_cst_27 : Ref sig .tc := ⟨.hbm, 162, rfl⟩
abbrev main_while0b_v123 : Ref sig .tc := ⟨.hbm, 163, rfl⟩
abbrev main_while0b_v124 : Ref sig .tc := ⟨.hbm, 164, rfl⟩
abbrev main_while0b_v125 : Ref sig .tc := ⟨.hbm, 165, rfl⟩
abbrev main_while0b_cst_28 : Ref sig .tc := ⟨.hbm, 166, rfl⟩
abbrev main_while0b_v126 : Ref sig .tc := ⟨.hbm, 167, rfl⟩
abbrev main_while0b_v127 : Ref sig .tc := ⟨.hbm, 168, rfl⟩
abbrev main_while0b_v128 : Ref sig .tc := ⟨.hbm, 169, rfl⟩
abbrev main_while0b_v129 : Ref sig .tc := ⟨.hbm, 170, rfl⟩
abbrev main_while0b_v130 : Ref sig .tc := ⟨.hbm, 171, rfl⟩
abbrev main_while0b_v131 : Ref sig .tc := ⟨.hbm, 172, rfl⟩
abbrev main_while0b_v132 : Ref sig .tc := ⟨.hbm, 173, rfl⟩
abbrev main_while0b_v133 : Ref sig .tc := ⟨.hbm, 174, rfl⟩
abbrev main_while0b_v134 : Ref sig .tc := ⟨.hbm, 175, rfl⟩
abbrev main_while0b_cst_29 : Ref sig .tc := ⟨.hbm, 176, rfl⟩
abbrev main_while0b_call3_v0 : Ref sig .tc := ⟨.hbm, 177, rfl⟩
abbrev main_while0b_call3_v1 : Ref sig .tc := ⟨.hbm, 178, rfl⟩
abbrev main_while0b_v135 : Ref sig .tc := ⟨.hbm, 179, rfl⟩
abbrev main_while0b_v136 : Ref sig .tc := ⟨.hbm, 180, rfl⟩
abbrev main_while0b_c_30 : Ref sig .tc := ⟨.hbm, 181, rfl⟩
abbrev main_while0b_v137 : Ref sig .tc := ⟨.hbm, 182, rfl⟩
abbrev main_while0b_v138 : Ref sig .tc := ⟨.hbm, 183, rfl⟩
abbrev main_while0b_c_31 : Ref sig .tc := ⟨.hbm, 184, rfl⟩
abbrev main_while0b_v139 : Ref sig .tc := ⟨.hbm, 185, rfl⟩
abbrev main_while0b_v140 : Ref sig .tc := ⟨.hbm, 186, rfl⟩
abbrev main_while0b_v141 : Ref sig .tc := ⟨.hbm, 187, rfl⟩
abbrev main_while0b_c_32 : Ref sig .tc := ⟨.hbm, 188, rfl⟩
abbrev main_while0b_v142 : Ref sig .tc := ⟨.hbm, 189, rfl⟩
abbrev main_while0b_v143 : Ref sig .tc := ⟨.hbm, 190, rfl⟩
abbrev main_while0b_c_33 : Ref sig .tc := ⟨.hbm, 191, rfl⟩
abbrev main_while0b_v144 : Ref sig .tc := ⟨.hbm, 192, rfl⟩
abbrev main_while0b_v145 : Ref sig .tc := ⟨.hbm, 193, rfl⟩
abbrev main_while0b_v146 : Ref sig .tc := ⟨.hbm, 194, rfl⟩
abbrev main_while0b_v147 : Ref sig .tc := ⟨.hbm, 195, rfl⟩
abbrev main_while0b_v148 : Ref sig .tc := ⟨.hbm, 196, rfl⟩
abbrev main_while0b_v149 : Ref sig .tc := ⟨.hbm, 197, rfl⟩
abbrev main_while0b_v150 : Ref sig .tc := ⟨.hbm, 198, rfl⟩
abbrev main_while0b_v151 : Ref sig .tc := ⟨.hbm, 199, rfl⟩
abbrev main_while0b_c_34 : Ref sig .tc := ⟨.hbm, 200, rfl⟩
abbrev main_while0b_v152 : Ref sig .tc := ⟨.hbm, 201, rfl⟩
abbrev main_while0b_v153 : Ref sig .tc := ⟨.hbm, 202, rfl⟩
abbrev main_while0b_c_35 : Ref sig .tc := ⟨.hbm, 203, rfl⟩
abbrev main_while0b_v154 : Ref sig .tc := ⟨.hbm, 204, rfl⟩
abbrev main_while0b_v155 : Ref sig .tc := ⟨.hbm, 205, rfl⟩
abbrev main_while0b_v156 : Ref sig .tc := ⟨.hbm, 206, rfl⟩
abbrev main_while0b_c_36 : Ref sig .tc := ⟨.hbm, 207, rfl⟩
abbrev main_while0b_v157 : Ref sig .tc := ⟨.hbm, 208, rfl⟩
abbrev main_while0b_v158 : Ref sig .tc := ⟨.hbm, 209, rfl⟩
abbrev main_while0b_c_37 : Ref sig .tc := ⟨.hbm, 210, rfl⟩
abbrev main_while0b_v159 : Ref sig .tc := ⟨.hbm, 211, rfl⟩
abbrev main_while0b_v160 : Ref sig .tc := ⟨.hbm, 212, rfl⟩
abbrev main_while0b_v161 : Ref sig .tc := ⟨.hbm, 213, rfl⟩
abbrev main_while0b_v162 : Ref sig .tc := ⟨.hbm, 214, rfl⟩
abbrev main_while0b_v163 : Ref sig .tc := ⟨.hbm, 215, rfl⟩
abbrev main_while0b_v164 : Ref sig .tc := ⟨.hbm, 216, rfl⟩
abbrev main_while0b_v165 : Ref sig .tc := ⟨.hbm, 217, rfl⟩
abbrev main_while0b_call4_v0 : Ref sig .tc := ⟨.hbm, 218, rfl⟩
abbrev main_while0b_call4_c : Ref sig .tc := ⟨.hbm, 219, rfl⟩
abbrev main_while0b_v166 : Ref sig .tc := ⟨.hbm, 220, rfl⟩
abbrev main_while0b_call5_v0 : Ref sig .tc := ⟨.hbm, 221, rfl⟩
abbrev main_while0b_call5_c : Ref sig .tc := ⟨.hbm, 222, rfl⟩
abbrev main_while0b_call5_c_0 : Ref sig .tc := ⟨.hbm, 223, rfl⟩
abbrev main_while0b_v167 : Ref sig .tc := ⟨.hbm, 224, rfl⟩
abbrev main_while0b_call6_v0 : Ref sig .tc := ⟨.hbm, 225, rfl⟩
abbrev main_while0b_call6_c : Ref sig .tc := ⟨.hbm, 226, rfl⟩
abbrev main_while0b_v168 : Ref sig .tc := ⟨.hbm, 227, rfl⟩
abbrev main_while0b_c_38 : Ref sig .tc := ⟨.hbm, 228, rfl⟩
abbrev main_while0b_v169 : Ref sig .tc := ⟨.hbm, 229, rfl⟩
abbrev main_v48 : Ref sig .tc := ⟨.hbm, 230, rfl⟩
abbrev main_v49 : Ref sig .tc := ⟨.hbm, 231, rfl⟩
abbrev main_v50 : Ref sig .tc := ⟨.hbm, 232, rfl⟩

abbrev nD : Nat := 1
abbrev τ : Topo := Topo.v7x

variable {F : FTy → Type} [FloatOps F]

abbrev main_while0_count : Scf.Loop 32 := ⟨0#32, 20#32, 1#32⟩
-- ==== Proof.KernelIdealBody.lean ====
/-
  One grid point's body of `KernelIdeal`, run once per control case at symbolic operands: what a trip of the
  selection loop computes (`trip`, `trips`), and per case what the body leaves in each buffer it stores into.
-/
module

public import proofs.«01_k».proof.Proof.Gen.KernelIdeal.Frame
public import proofs.«01_k».proof.Proof.Gen.KernelIdeal.Loops
public import Idealize.ShloMosaic.Lib.VecWindow

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the selection loop carries: the running scores, the kept scores and labels, the kept boxes' four columns. -/
abbrev Acc (F : FTy → Type) : Type :=
  FVec F S8x160x128 .f32 × FVec F S8x20 .f32 × IVec S8x20 32 × FVec F S8x20 .f32 × FVec F S8x20 .f32 × FVec F S8x20 .f32 × FVec F S8x20 .f32

/-- The contents of the four scratch buffers. -/
abbrev Scr (F : FTy → Type) : Type :=
  Vec F S8x20x8x128 .f32 × Vec F S8x20x8x128 .i32 × Vec F S8x4x20x8x128 .f32 × Vec F S8x4x1024 .f32

/-- One trip of the selection loop at trip `k`, over the values bound before the loop. -/
def trip (L : IVec S8x160x128 32) (mc : FVec F S8 .f32) (x1 y1 x2 y2 ar : FVec F S8x160x128 .f32)
    (fl : IVec S8x160x128 32) (kc : IVec S8x20 32) (k : ℕ) (a : Acc F) : Acc F :=
  (k0_pay7 ar a.1 (k0_pay18 fl a.1) (k0_pay19 x1 fl a.1) (k0_pay20 y1 fl a.1) (k0_pay21 x2 fl a.1) (k0_pay22 y2 fl a.1) (k0_pay24 x1 y1 x2 y2 fl a.1),
   k0_pay10 kc a.2.1 (Scf.iv 0#32 1#32 k) (k0_pay17 a.1),
   k0_pay11 kc a.2.2.1 (Scf.iv 0#32 1#32 k) (k0_pay23 L fl a.1),
   k0_pay12 mc kc a.2.2.2.1 (Scf.iv 0#32 1#32 k) (k0_pay19 x1 fl a.1) (k0_pay23 L fl a.1),
   k0_pay13 mc kc a.2.2.2.2.1 (Scf.iv 0#32 1#32 k) (k0_pay20 y1 fl a.1) (k0_pay23 L fl a.1),
   k0_pay14 mc kc a.2.2.2.2.2.1 (Scf.iv 0#32 1#32 k) (k0_pay21 x2 fl a.1) (k0_pay23 L fl a.1),
   k0_pay15 mc kc a.2.2.2.2.2.2 (Scf.iv 0#32 1#32 k) (k0_pay22 y2 fl a.1) (k0_pay23 L fl a.1))

/-- The carried values before trip `n`. -/
def trips (L : IVec S8x160x128 32) (mc : FVec F S8 .f32) (x1 y1 x2 y2 ar : FVec F S8x160x128 .f32)
    (fl : IVec S8x160x128 32) (kc : IVec S8x20 32) (init : Acc F) : ℕ → Acc F
  | 0 => init
  | n + 1 => trip L mc x1 y1 x2 y2 ar fl kc n (trips L mc x1 y1 x2 y2 ar fl kc init n)

/-- What the selection loop leaves, from the scratch buffers' contents. -/
def selected (g : Scr F) : Acc F :=
  trips (k0_pay26 g.2.1) (k0_pay27 g.2.2.2) (k0_pay29 g.2.1 g.2.2.1 g.2.2.2) (k0_pay30 g.2.1 g.2.2.1 g.2.2.2)
    (k0_pay31 g.2.1 g.2.2.1 g.2.2.2) (k0_pay32 g.2.1 g.2.2.1 g.2.2.2) (k0_pay33 g.2.1 g.2.2.1 g.2.2.2) k0_pay34
    (iota .tc S8x20 32 [1] iota_S8x20_d1_w32)
    (k0_pay25 g.1, k0_pay35, k0_pay6 0#32, k0_pay35, k0_pay35, k0_pay35, k0_pay35) 20

/-- The selection loop's invariant: the carried value is the one `trips` states. -/
@[sl_loop, instance_reducible] def selLoop (c : Dev nD) (i : grid0.Coords) (arg2 : Memref sig .tc .smem S8x2 .i32) (harg2 : arg2.IsWhole) (arg3 : Memref sig .tc .vmem S1x1024x80 .f32) (harg3 : arg3.IsWhole) (arg4 : Memref sig .tc .vmem S1x4x1024 .f32) (harg4 : arg4.IsWhole) (arg5 : Memref sig .tc .vmem S8x20 .i32) (harg5 : arg5.IsWhole) (arg6 : Memref sig .tc .vmem S8x20x4 .f32) (harg6 : arg6.IsWhole) (arg7 : Memref sig .tc .vmem S8x20 .f32) (harg7 : arg7.IsWhole) (arg8 : Memref sig .tc .vmem S8x20x8x128 .f32) (harg8 : arg8.IsWhole) (arg9 : Memref sig .tc .vmem S8x20x8x128 .i32) (harg9 : arg9.IsWhole) (arg10 : Memref sig .tc .vmem S8x4x20x8x128 .f32) (harg10 : arg10.IsWhole) (arg11 : Memref sig .tc .vmem S8x4x1024 .f32) (harg11 : arg11.IsWhole) (k0_h3 : k0_cond3 i = 1#1) (v106 : IVec S8x160x128 32) (v123 : FVec F S8 .f32) (v128 : FVec F S8x160x128 .f32) (v129 : FVec F S8x160x128 .f32) (v130 : FVec F S8x160x128 .f32) (v131 : FVec F S8x160x128 .f32) (v134 : FVec F S8x160x128 .f32) (v139 : IVec S8x160x128 32) (v140 : IVec S8x20 32) (init : Acc F) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 k0_h3 v106 v123 v128 v129 v130 v131 v134 v139 v140 init where
  inv := fun k acc => iprop(⌜acc = trips v106 v123 v128 v129 v130 v131 v134 v139 v140 init k⌝)
  step := fun k acc => by
    have hb : k0_t1_body i arg2 harg2 arg3 harg3 arg4 harg4 arg5 harg5 arg6 harg6 arg7 harg7 arg8 harg8 arg9 harg9 arg10 harg10 arg11 harg11 k0_h3 v106 v123 v128 v129 v130 v131 v134 v139 v140 k acc
        = Prog.ret (trip v106 v123 v128 v129 v130 v131 v134 v139 v140 k acc) := by
      unfold k0_t1_body
      rw [k0_part1_eq_skeleton]
      rfl
    rw [hb]
    iintro %h
    sl_step
    ipureintro
    rw [trips, ← h]

/-- Memref `M`'s buffer on core `c`: its contents type. -/
abbrev Bf (F : FTy → Type) (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf F c M) : sProp 𝕄 :=
  M.view.loc (c : Thread nD τ) ↦{fullShare} f

variable (c : Dev nD) (i : grid0.Coords)
  (M0 : Memref sig .tc .smem S8x2 .i32) (h0 : M0.IsWhole)
  (M1 : Memref sig .tc .vmem S1x1024x80 .f32) (h1 : M1.IsWhole)
  (M2 : Memref sig .tc .vmem S1x4x1024 .f32) (h2 : M2.IsWhole)
  (M3 : Memref sig .tc .vmem S8x20 .i32) (h3 : M3.IsWhole)
  (M4 : Memref sig .tc .vmem S8x20x4 .f32) (h4 : M4.IsWhole)
  (M5 : Memref sig .tc .vmem S8x20 .f32) (h5 : M5.IsWhole)
  (M6 : Memref sig .tc .vmem S8x20x8x128 .f32) (h6 : M6.IsWhole)
  (M7 : Memref sig .tc .vmem S8x20x8x128 .i32) (h7 : M7.IsWhole)
  (M8 : Memref sig .tc .vmem S8x4x20x8x128 .f32) (h8 : M8.IsWhole)
  (M9 : Memref sig .tc .vmem S8x4x1024 .f32) (h9 : M9.IsWhole)
  (f0 : Bf F c M0) (f1 : Bf F c M1) (f2 : Bf F c M2) (f3 : Bf F c M3) (f4 : Bf F c M4) (f5 : Bf F c M5)
  (f6 : Bf F c M6) (f7 : Bf F c M7) (f8 : Bf F c M8) (f9 : Bf F c M9)

/-- The block of scaled corner coordinates the body computes from the staged boxes and sizes. -/
def xyOf (i : grid0.Coords) (X0 : Vec F S8x2 .i32) (X2 : Vec F S1x4x1024 .f32) : FVec F S4x1024 .f32 :=
  k0_pay41 X2 (X0 ((Rect.unit (s := S8x2) (k0_off2 i) S1x1.size (k0_off2_inb i)).idx (Shape.Idx.first (s := S1x1) (numel1_S1x1.symm ▸ Nat.one_pos))))
    (X0 ((Rect.unit (s := S8x2) (k0_off3 i) S1x1.size (k0_off3_inb i)).idx (Shape.Idx.first (s := S1x1) (numel1_S1x1.symm ▸ Nat.one_pos))))

/-- The grid point's validity mask over the coordinates. -/
abbrev vmask (i : grid0.Coords) : IVec S4x1024 1 := k0_pay42 (BitVec.ofNat 32 (i 1).val)

/-- What the body leaves in the score scratch. -/
abbrev w6 : Bf F c M6 := M6.view.writes (Elt F) f6 [⟨Rect.unit (k0_off1 i) S1x1x8x128.size (k0_off1_inb i), k0_pay39 i (M1.view.read (Elt F) f1)⟩]
/-- What the body leaves in the label scratch. -/
abbrev w7 : Bf F c M7 := M7.view.writes (Elt F) f7 [⟨Rect.unit (k0_off1 i) S1x1x8x128.size (k0_off1_inb i), k0_pay40 i (M1.view.read (Elt F) f1)⟩]
/-- What the body leaves in the coordinate scratch. -/
abbrev w8 : Bf F c M8 := M8.view.writes (Elt F) f8 [⟨Rect.unit (k0_off4 i) S1x4x1x8x128.size (k0_off4_inb i), k0_pay2 (xyOf i (M0.view.read (Elt F) f0) (M2.view.read (Elt F) f2)) (vmask i) k0_pay43⟩]
/-- What the body leaves in the extent scratch at an image's first block, -/
abbrev w9a (hc : k0_cond1 i = 1#1) : Bf F c M9 := M9.view.writes (Elt F) f9 [⟨Rect.unit (k0_off5 i) S1x4x1024.size (k0_off5_inb i hc), k0_pay4 (xyOf i (M0.view.read (Elt F) f0) (M2.view.read (Elt F) f2)) (vmask i) k0_pay43⟩]
/-- and at a later one. -/
abbrev w9b (hc : k0_cond2 i = 1#1) : Bf F c M9 := M9.view.writes (Elt F) f9 [⟨Rect.unit (k0_off6 i) S1x4x1024.size (k0_off6_inb i hc), k0_pay5 (xyOf i (M0.view.read (Elt F) f0) (M2.view.read (Elt F) f2)) (vmask i) k0_pay43
  (M9.view.readAt (Elt F) (Rect.unit (s := S8x4x1024) (k0_off6 i) S1x4x1024.size (k0_off6_inb i hc)).toLoadRect f9)⟩]

/-- The body at an image's first block: the scratch blocks stored, the extent started. -/
theorem run_first (hc1 : k0_cond1 i = 1#1) (hc2 : ¬ k0_cond2 i = 1#1) (hc3 : ¬ k0_cond3 i = 1#1) (Q : PUnit → sProp 𝕄) :
    iprop(pt c M0 f0 ∗ pt c M1 f1 ∗ pt c M2 f2 ∗ pt c M6 f6 ∗ pt c M7 f7 ∗ pt c M8 f8 ∗ pt c M9 f9
      ∗ (iprop(pt c M0 f0 ∗ pt c M1 f1 ∗ pt c M2 f2 ∗ pt c M6 (w6 c i M1 M6 f1 f6) ∗ pt c M7 (w7 c i M1 M7 f1 f7) ∗ pt c M8 (w8 c i M0 M2 M8 f0 f2 f8) ∗ pt c M9 (w9a c i M0 M2 M9 f0 f2 f9 hc1)) -∗ Q ⟨⟩))
    ⊢ wp frame (wpE (defs₀ (F := F)) Variants.none c none) Set.univ
        (cc0__nms_kernel i M0 h0 M1 h1 M2 h2 M3 h3 M4 h4 M5 h5 M6 h6 M7 h7 M8 h8 M9 h9) Q := by
  have e1 : M1.view.readAt (Elt F) (Rect.unit (s := S1x1024x80) ![0, 0, 0] S1x1024x80.size inb_S1x1024x80_S1x1024x80_0_0_0).toLoadRect f1 = M1.view.read (Elt F) f1 := View.readAt_full _ _ _
  have e2 : M2.view.readAt (Elt F) (Rect.unit (s := S1x4x1024) ![0, 0, 0] S1x4x1024.size inb_S1x4x1024_S1x4x1024_0_0_0).toLoadRect f2 = M2.view.read (Elt F) f2 := View.readAt_full _ _ _
  rw [cc0__nms_kernel_eq_skeleton]
  unfold cc0__nms_kernel_skel
  iintro ⟨H0, H1, H2, H6, H7, H8, H9, Hk⟩
  sl_exec_parts!
  sl_step
  iapply Hk
  unfold w6 w7 w8 w9a xyOf
  delta run_first.sl.H6_1 run_first.sl.H7_1 run_first.sl.r_3 run_first.sl.r_4
  isplitl [H0]; · iexact H0
  isplitl [H1]; · iexact H1
  isplitl [H2]; · iexact H2
  isplitl [H6]; · iexact H6
  isplitl [H7]; · iexact H7
  isplitl [H8]; · iexact H8
  iexact H9

/-- The body at a later block that is not the last point: the scratch blocks stored, the extent extended. -/
theorem run_mid (hc1 : ¬ k0_cond1 i = 1#1) (hc2 : k0_cond2 i = 1#1) (hc3 : ¬ k0_cond3 i = 1#1) (Q : PUnit → sProp 𝕄) :
    iprop(pt c M0 f0 ∗ pt c M1 f1 ∗ pt c M2 f2 ∗ pt c M6 f6 ∗ pt c M7 f7 ∗ pt c M8 f8 ∗ pt c M9 f9
      ∗ (iprop(pt c M0 f0 ∗ pt c M1 f1 ∗ pt c M2 f2 ∗ pt c M6 (w6 c i M1 M6 f1 f6) ∗ pt c M7 (w7 c i M1 M7 f1 f7) ∗ pt c M8 (w8 c i M0 M2 M8 f0 f2 f8) ∗ pt c M9 (w9b c i M0 M2 M9 f0 f2 f9 hc2)) -∗ Q ⟨⟩))
    ⊢ wp frame (wpE (defs₀ (F := F)) Variants.none c none) Set.univ
        (cc0__nms_kernel i M0 h0 M1 h1 M2 h2 M3 h3 M4 h4 M5 h5 M6 h6 M7 h7 M8 h8 M9 h9) Q := by
  have e1 : M1.view.readAt (Elt F) (Rect.unit (s := S1x1024x80) ![0, 0, 0] S1x1024x80.size inb_S1x1024x80_S1x1024x80_0_0_0).toLoadRect f1 = M1.view.read (Elt F) f1 := View.readAt_full _ _ _
  have e2 : M2.view.readAt (Elt F) (Rect.unit (s := S1x4x1024) ![0, 0, 0] S1x4x1024.size inb_S1x4x1024_S1x4x1024_0_0_0).toLoadRect f2 = M2.view.read (Elt F) f2 := View.readAt_full _ _ _
  rw [cc0__nms_kernel_eq_skeleton]
  unfold cc0__nms_kernel_skel
  iintro ⟨H0, H1, H2, H6, H7, H8, H9, Hk⟩
  sl_exec_parts!
  sl_step
  iapply Hk
  unfold w6 w7 w8 w9b xyOf
  delta run_mid.sl.H6_1 run_mid.sl.H7_1 run_mid.sl.r_3 run_mid.sl.r_4
  isplitl [H0]; · iexact H0
  isplitl [H1]; · iexact H1
  isplitl [H2]; · iexact H2
  isplitl [H6]; · iexact H6
  isplitl [H7]; · iexact H7
  isplitl [H8]; · iexact H8
  iexact H9

/-- The body at the last point: the scratch blocks stored, the extent extended, then the selection over the scratch buffers as they stand, its three results stored. -/
theorem run_last (hc1 : ¬ k0_cond1 i = 1#1) (hc2 : k0_cond2 i = 1#1) (hc3 : k0_cond3 i = 1#1) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
      ∗ (iprop(pt c M0 f0 ∗ pt c M1 f1 ∗ pt c M2 f2 ∗ (∃ g, pt c M3 g ∗ ⌜M3.view.read (Elt F) g = (selected (M6.view.read (Elt F) (w6 c i M1 M6 f1 f6), M7.view.read (Elt F) (w7 c i M1 M7 f1 f7), M8.view.read (Elt F) (w8 c i M0 M2 M8 f0 f2 f8), M9.view.read (Elt F) (w9b c i M0 M2 M9 f0 f2 f9 hc2))).2.2.1⌝) ∗ (∃ g, pt c M4 g ∗ ⌜M4.view.read (Elt F) g = k0_pay16 (selected (M6.view.read (Elt F) (w6 c i M1 M6 f1 f6), M7.view.read (Elt F) (w7 c i M1 M7 f1 f7), M8.view.read (Elt F) (w8 c i M0 M2 M8 f0 f2 f8), M9.view.read (Elt F) (w9b c i M0 M2 M9 f0 f2 f9 hc2))).2.2.2.1 (selected (M6.view.read (Elt F) (w6 c i M1 M6 f1 f6), M7.view.read (Elt F) (w7 c i M1 M7 f1 f7), M8.view.read (Elt F) (w8 c i M0 M2 M8 f0 f2 f8), M9.view.read (Elt F) (w9b c i M0 M2 M9 f0 f2 f9 hc2))).2.2.2.2.1 (selected (M6.view.read (Elt F) (w6 c i M1 M6 f1 f6), M7.view.read (Elt F) (w7 c i M1 M7 f1 f7), M8.view.read (Elt F) (w8 c i M0 M2 M8 f0 f2 f8), M9.view.read (Elt F) (w9b c i M0 M2 M9 f0 f2 f9 hc2))).2.2.2.2.2.1 (selected (M6.view.read (Elt F) (w6 c i M1 M6 f1 f6), M7.view.read (Elt F) (w7 c i M1 M7 f1 f7), M8.view.read (Elt F) (w8 c i M0 M2 M8 f0 f2 f8), M9.view.read (Elt F) (w9b c i M0 M2 M9 f0 f2 f9 hc2))).2.2.2.2.2.2⌝) ∗ (∃ g, pt c M5 g ∗ ⌜M5.view.read (Elt F) g = (selected (M6.view.read (Elt F) (w6 c i M1 M6 f1 f6), M7.view.read (Elt F) (w7 c i M1 M7 f1 f7), M8.view.read (Elt F) (w8 c i M0 M2 M8 f0 f2 f8), M9.view.read (Elt F) (w9b c i M0 M2 M9 f0 f2 f9 hc2))).2.1⌝) ∗ pt c M6 (w6 c i M1 M6 f1 f6) ∗ pt c M7 (w7 c i M1 M7 f1 f7) ∗ pt c M8 (w8 c i M0 M2 M8 f0 f2 f8) ∗ pt c M9 (w9b c i M0 M2 M9 f0 f2 f9 hc2)) -∗ Q ⟨⟩))
    ⊢ wp frame (wpE (defs₀ (F := F)) Variants.none c none) Set.univ
        (cc0__nms_kernel i M0 h0 M1 h1 M2 h2 M3 h3 M4 h4 M5 h5 M6 h6 M7 h7 M8 h8 M9 h9) Q := by
  have e1 : M1.view.readAt (Elt F) (Rect.unit (s := S1x1024x80) ![0, 0, 0] S1x1024x80.size inb_S1x1024x80_S1x1024x80_0_0_0).toLoadRect f1 = M1.view.read (Elt F) f1 := View.readAt_full _ _ _
  have e2 : M2.view.readAt (Elt F) (Rect.unit (s := S1x4x1024) ![0, 0, 0] S1x4x1024.size inb_S1x4x1024_S1x4x1024_0_0_0).toLoadRect f2 = M2.view.read (Elt F) f2 := View.readAt_full _ _ _
  have e6 : ∀ f, M6.view.readAt (Elt F) (Rect.unit (s := S8x20x8x128) ![0, 0, 0, 0] S8x20x8x128.size inb_S8x20x8x128_S8x20x8x128_0_0_0_0).toLoadRect f = M6.view.read (Elt F) f := fun f => View.readAt_full _ _ _
  have e7 : ∀ f, M7.view.readAt (Elt F) (Rect.unit (s := S8x20x8x128) ![0, 0, 0, 0] S8x20x8x128.size inb_S8x20x8x128_S8x20x8x128_0_0_0_0).toLoadRect f = M7.view.read (Elt F) f := fun f => View.readAt_full _ _ _
  have e8 : ∀ f, M8.view.readAt (Elt F) (Rect.unit (s := S8x4x20x8x128) ![0, 0, 0, 0, 0] S8x4x20x8x128.size inb_S8x4x20x8x128_S8x4x20x8x128_0_0_0_0_0).toLoadRect f = M8.view.read (Elt F) f := fun f => View.readAt_full _ _ _
  have e9 : ∀ f, M9.view.readAt (Elt F) (Rect.unit (s := S8x4x1024) ![0, 0, 0] S8x4x1024.size inb_S8x4x1024_S8x4x1024_0_0_0).toLoadRect f = M9.view.read (Elt F) f := fun f => View.readAt_full _ _ _
  rw [cc0__nms_kernel_eq_skeleton]
  unfold cc0__nms_kernel_skel
  iintro ⟨H0, H1, H2, H3, H4, H5, H6, H7, H8, H9, Hk⟩
  sl_exec_parts!
  sl_step
  have q5 : run_last.sl.r_5 c i M1 M6 f1 f6 = k0_pay25 (M6.view.read (Elt F) (w6 c i M1 M6 f1 f6)) := rfl
  have q6 : run_last.sl.r_6 c i M1 M7 f1 f7 = k0_pay26 (M7.view.read (Elt F) (w7 c i M1 M7 f1 f7)) := rfl
  have q7 : run_last.sl.r_7 c i M0 M2 M9 f0 f2 f9 hc2 = k0_pay27 (M9.view.read (Elt F) (w9b c i M0 M2 M9 f0 f2 f9 hc2)) := rfl
  have q8 : run_last.sl.r_8 c i M0 M1 M2 M7 M8 M9 f0 f1 f2 f7 f8 f9 hc2 = k0_pay29 (M7.view.read (Elt F) (w7 c i M1 M7 f1 f7)) (M8.view.read (Elt F) (w8 c i M0 M2 M8 f0 f2 f8)) (M9.view.read (Elt F) (w9b c i M0 M2 M9 f0 f2 f9 hc2)) := rfl
  have q9 : run_last.sl.r_9 c i M0 M1 M2 M7 M8 M9 f0 f1 f2 f7 f8 f9 hc2 = k0_pay30 (M7.view.read (Elt F) (w7 c i M1 M7 f1 f7)) (M8.view.read (Elt F) (w8 c i M0 M2 M8 f0 f2 f8)) (M9.view.read (Elt F) (w9b c i M0 M2 M9 f0 f2 f9 hc2)) := rfl
  have q10 : run_last.sl.r_10 c i M0 M1 M2 M7 M8 M9 f0 f1 f2 f7 f8 f9 hc2 = k0_pay31 (M7.view.read (Elt F) (w7 c i M1 M7 f1 f7)) (M8.view.read (Elt F) (w8 c i M0 M2 M8 f0 f2 f8)) (M9.view.read (Elt F) (w9b c i M0 M2 M9 f0 f2 f9 hc2)) := rfl
  have q11 : run_last.sl.r_11 c i M0 M1 M2 M7 M8 M9 f0 f1 f2 f7 f8 f9 hc2 = k0_pay32 (M7.view.read (Elt F) (w7 c i M1 M7 f1 f7)) (M8.view.read (Elt F) (w8 c i M0 M2 M8 f0 f2 f8)) (M9.view.read (Elt F) (w9b c i M0 M2 M9 f0 f2 f9 hc2)) := rfl
  have q12 : run_last.sl.r_12 c i M0 M1 M2 M7 M8 M9 f0 f1 f2 f7 f8 f9 hc2 = k0_pay33 (M7.view.read (Elt F) (w7 c i M1 M7 f1 f7)) (M8.view.read (Elt F) (w8 c i M0 M2 M8 f0 f2 f8)) (M9.view.read (Elt F) (w9b c i M0 M2 M9 f0 f2 f9 hc2)) := rfl
  have hs : selected (M6.view.read (Elt F) (w6 c i M1 M6 f1 f6), M7.view.read (Elt F) (w7 c i M1 M7 f1 f7), M8.view.read (Elt F) (w8 c i M0 M2 M8 f0 f2 f8), M9.view.read (Elt F) (w9b c i M0 M2 M9 f0 f2 f9 hc2))
      = trips (run_last.sl.r_6 c i M1 M7 f1 f7) (run_last.sl.r_7 c i M0 M2 M9 f0 f2 f9 hc2) (run_last.sl.r_8 c i M0 M1 M2 M7 M8 M9 f0 f1 f2 f7 f8 f9 hc2) (run_last.sl.r_9 c i M0 M1 M2 M7 M8 M9 f0 f1 f2 f7 f8 f9 hc2) (run_last.sl.r_10 c i M0 M1 M2 M7 M8 M9 f0 f1 f2 f7 f8 f9 hc2) (run_last.sl.r_11 c i M0 M1 M2 M7 M8 M9 f0 f1 f2 f7 f8 f9 hc2) (run_last.sl.r_12 c i M0 M1 M2 M7 M8 M9 f0 f1 f2 f7 f8 f9 hc2) k0_pay34 run_last.sl.v140
        (run_last.sl.r_5 c i M1 M6 f1 f6, k0_pay35, k0_pay6 0#32, k0_pay35, k0_pay35, k0_pay35, k0_pay35) 20 := by
    rw [q5, q6, q7, q8, q9, q10, q11, q12]
    rfl
  iapply Hk
  isplitl [H0]; · iexact H0
  isplitl [H1]; · iexact H1
  isplitl [H2]; · iexact H2
  isplitl [H3]
  · iexists _
    isplitl [H3]; · iexact H3
    ipureintro
    delta run_last.sl.H3_1
    rw [View.read_writes_full, hs]
    rfl
  isplitl [H4]
  · iexists _
    isplitl [H4]; · iexact H4
    ipureintro
    delta run_last.sl.H4_1
    rw [View.read_writes_full, hs]
    rfl
  isplitl [H5]
  · iexists _
    isplitl [H5]; · iexact H5
    ipureintro
    delta run_last.sl.H5_1
    rw [View.read_writes_full, hs]
    rfl
  unfold w6 w7 w8 w9b xyOf
  delta run_last.sl.H6_1 run_last.sl.H7_1 run_last.sl.H8_1 run_last.sl.H9_1 run_last.sl.r_3 run_last.sl.r_4
  isplitl [H6]; · iexact H6
  isplitl [H7]; · iexact H7
  isplitl [H8]; · iexact H8
  iexact H9

end Cert.Proof.KernelIdeal

end
-- ==== Proof.KernelIdealFrame.lean ====
/-
  The kernel's frame at its own floats: every launch of it terminates, faults nowhere, leaves its three arguments as
  they were and every counter at zero. No value is named: all six windows are forgotten, the scratch is the scoped rest.
-/
module

public import proofs.«01_k».proof.Proof.KernelIdealBody

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- The point is an image's first block, -/
theorem cond1_iff (i : grid0.Coords) : k0_cond1 i = 1#1 ↔ (i 1).val = 0 := by
  have h : ∀ j : Fin 20, Scalar.cmpi .ne (Scalar.extui (Scalar.cmpi .eq (BitVec.ofNat 32 j.val) 0#32)) 0#32 = 1#1 ↔ j.val = 0 := by decide
  exact h (i 1)

/-- a later one, -/
theorem cond2_iff (i : grid0.Coords) : k0_cond2 i = 1#1 ↔ (i 1).val ≠ 0 := by
  have h : ∀ j : Fin 20, Scalar.cmpi .ne (Scalar.extui (Scalar.cmpi .sgt (BitVec.ofNat 32 j.val) 0#32)) 0#32 = 1#1 ↔ j.val ≠ 0 := by decide
  exact h (i 1)

/-- the last image's last. -/
theorem cond3_iff (i : grid0.Coords) : k0_cond3 i = 1#1 ↔ (i 0).val = 7 ∧ (i 1).val = 19 := by
  have h : ∀ (b : Fin 8) (j : Fin 20), k0_cond3 (fun | 0 => b | 1 => j) = 1#1 ↔ b.val = 7 ∧ j.val = 19 := by decide
  have e : i = (fun | 0 => i 0 | 1 => i 1) := by funext a; fin_cases a <;> rfl
  rw [e]
  exact h (i 0) (i 1)

section

variable (c : Dev nD) (i : grid0.Coords)
  (M0 : Memref sig .tc .smem S8x2 .i32) (h0 : M0.IsWhole)
  (M1 : Memref sig .tc .vmem S1x1024x80 .f32) (h1 : M1.IsWhole)
  (M2 : Memref sig .tc .vmem S1x4x1024 .f32) (h2 : M2.IsWhole)
  (M3 : Memref sig .tc .vmem S8x20 .i32) (h3 : M3.IsWhole)
  (M4 : Memref sig .tc .vmem S8x20x4 .f32) (h4 : M4.IsWhole)
  (M5 : Memref sig .tc .vmem S8x20 .f32) (h5 : M5.IsWhole)
  (M6 : Memref sig .tc .vmem S8x20x8x128 .f32) (h6 : M6.IsWhole)
  (M7 : Memref sig .tc .vmem S8x20x8x128 .i32) (h7 : M7.IsWhole)
  (M8 : Memref sig .tc .vmem S8x4x20x8x128 .f32) (h8 : M8.IsWhole)
  (M9 : Memref sig .tc .vmem S8x4x1024 .f32) (h9 : M9.IsWhole)

/-- Every buffer of a point held at some contents. -/
abbrev held : sProp 𝕄 :=
  iprop((∃ f, pt c M0 f) ∗ (∃ f, pt c M1 f) ∗ (∃ f, pt c M2 f) ∗ (∃ f, pt c M3 f) ∗ (∃ f, pt c M4 f) ∗ (∃ f, pt c M5 f)
    ∗ (∃ f, pt c M6 f) ∗ (∃ f, pt c M7 f) ∗ (∃ f, pt c M8 f) ∗ (∃ f, pt c M9 f))

/-- The body at any point, from every buffer at some contents to every buffer at some contents. -/
theorem run_any (Q : PUnit → sProp 𝕄) :
    iprop(held c M0 M1 M2 M3 M4 M5 M6 M7 M8 M9 ∗ (held c M0 M1 M2 M3 M4 M5 M6 M7 M8 M9 -∗ Q ⟨⟩))
    ⊢ wp frame (wpE (defs₀ (F := F)) Variants.none c none) Set.univ
        (cc0__nms_kernel i M0 h0 M1 h1 M2 h2 M3 h3 M4 h4 M5 h5 M6 h6 M7 h7 M8 h8 M9 h9) Q := by
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩, Hk⟩
  by_cases hc1 : k0_cond1 i = 1#1
  · have hj := (cond1_iff i).mp hc1
    iapply (run_first c i M0 h0 M1 h1 M2 h2 M3 h3 M4 h4 M5 h5 M6 h6 M7 h7 M8 h8 M9 h9 f0 f1 f2 f6 f7 f8 f9 hc1
      (fun h => (cond2_iff i).mp h hj) (fun h => by have := ((cond3_iff i).mp h).2; omega) Q)
    isplitl [H0]; · iexact H0
    isplitl [H1]; · iexact H1
    isplitl [H2]; · iexact H2
    isplitl [H6]; · iexact H6
    isplitl [H7]; · iexact H7
    isplitl [H8]; · iexact H8
    isplitl [H9]; · iexact H9
    iintro ⟨H0, H1, H2, H6, H7, H8, H9⟩
    iapply Hk
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9
  · have hc2 : k0_cond2 i = 1#1 := (cond2_iff i).mpr fun h => hc1 ((cond1_iff i).mpr h)
    by_cases hc3 : k0_cond3 i = 1#1
    · iapply (run_last c i M0 h0 M1 h1 M2 h2 M3 h3 M4 h4 M5 h5 M6 h6 M7 h7 M8 h8 M9 h9 f0 f1 f2 f3 f4 f5 f6 f7 f8 f9 hc1 hc2 hc3 Q)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iintro ⟨H0, H1, H2, ⟨%g3, H3, -⟩, ⟨%g4, H4, -⟩, ⟨%g5, H5, -⟩, H6, H7, H8, H9⟩
      iapply Hk
      isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      iexists _; iexact H9
    · iapply (run_mid c i M0 h0 M1 h1 M2 h2 M3 h3 M4 h4 M5 h5 M6 h6 M7 h7 M8 h8 M9 h9 f0 f1 f2 f6 f7 f8 f9 hc1 hc2 hc3 Q)
      isplitl [H0]; · iexact H0
      isplitl [H1]; · iexact H1
      isplitl [H2]; · iexact H2
      isplitl [H6]; · iexact H6
      isplitl [H7]; · iexact H7
      isplitl [H8]; · iexact H8
      isplitl [H9]; · iexact H9
      iintro ⟨H0, H1, H2, H6, H7, H8, H9⟩
      iapply Hk
      isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      iexists _; iexact H9

end

variable (m : (ℓ : Loc nD τ sig) → Buf (Elt F) ℓ) (g : Dev nD → PrngReg)

/-- The proof data: the arrays as the region finds them, nothing named of what the body leaves. -/
def dats : (p : Fin 1) → (c : Dev nD) → Dat τ (Elt F) Unit ℕ (UR sig nD τ) ℕ (cfgs p) c
  | 0, c =>
    { A := fun w => V m c (Pipeline.arrRef spec0 w)
      after := Dat.unnamed
      Φ := fun _ => Pipeline.ΦA spec0 c
      q := fun _ => fullShare
      owed := fun _ => 0 }

/-- The body at a point, from every buffer held at something and the rest of the invariant to the same. -/
theorem body_core (c : Dev nD) (t : Fin cfg0.N) (R : sProp 𝕄) :
    iprop(Pipeline.ΦA spec0 c ∗ R ∗ (∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X))
    ⊢ wp frame (wpE (defs₀ (F := F)) Variants.none c none) Set.univ (bodyAt0 t) fun _ =>
      iprop(Pipeline.ΦA spec0 c ∗ R ∗ (∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X)) := by
  unfold Pipeline.ΦA
  rw [scopedRest0_eq]
  simp only [owns]
  rw [show (win0_0.stage (cfg0.slots t 0)).view.set = Finset.univ from (hstage0_0 ((cfg0.slots t 0).cast nbuf0_0)).set_eq_univ]
  rw [show (win0_1.stage (cfg0.slots t 1)).view.set = Finset.univ from (hstage0_1 ((cfg0.slots t 1).cast nbuf0_1)).set_eq_univ]
  rw [show (win0_2.stage (cfg0.slots t 2)).view.set = Finset.univ from (hstage0_2 ((cfg0.slots t 2).cast nbuf0_2)).set_eq_univ]
  rw [show (win0_3.stage (cfg0.slots t 3)).view.set = Finset.univ from (hstage0_3 ((cfg0.slots t 3).cast nbuf0_3)).set_eq_univ]
  rw [show (win0_4.stage (cfg0.slots t 4)).view.set = Finset.univ from (hstage0_4 ((cfg0.slots t 4).cast nbuf0_4)).set_eq_univ]
  rw [show (win0_5.stage (cfg0.slots t 5)).view.set = Finset.univ from (hstage0_5 ((cfg0.slots t 5).cast nbuf0_5)).set_eq_univ]
  iintro ⟨⟨⟨⟨%f6, H6⟩, ⟨%f7, H7⟩, ⟨%f8, H8⟩, ⟨%f9, H9⟩⟩, HP⟩, HO, ⟨%X0, %f0, -, H0⟩, ⟨%X1, %f1, -, H1⟩, ⟨%X2, %f2, -, H2⟩, ⟨%X3, %f3, -, H3⟩, ⟨%X4, %f4, -, H4⟩, ⟨%X5, %f5, -, H5⟩⟩
  iapply (run_any c (grid0.coords t))
  isplitl [H0 H1 H2 H3 H4 H5 H6 H7 H8 H9]
  · isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    isplitl [H6]; · iexists f6; iexact H6
    isplitl [H7]; · iexists f7; iexact H7
    isplitl [H8]; · iexists f8; iexact H8
    iexists f9; iexact H9
  iintro ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g9, H9⟩⟩
  isplitl [H6 H7 H8 H9 HP]
  · isplitl [H6 H7 H8 H9]
    · isplitl [H6]; · iexists g6; iexact H6
      isplitl [H7]; · iexists g7; iexact H7
      isplitl [H8]; · iexists g8; iexact H8
      iexists g9; iexact H9
    iexact HP
  isplitl [HO]; · iexact HO
  isplitl [H0]; · iexists _; iexists g0; isplitr; (· ipureintro; rfl); iexact H0
  isplitl [H1]; · iexists _; iexists g1; isplitr; (· ipureintro; rfl); iexact H1
  isplitl [H2]; · iexists _; iexists g2; isplitr; (· ipureintro; rfl); iexact H2
  isplitl [H3]; · iexists _; iexists g3; isplitr; (· ipureintro; rfl); iexact H3
  isplitl [H4]; · iexists _; iexists g4; isplitr; (· ipureintro; rfl); iexact H4
  iexists _; iexists g5; isplitr; (· ipureintro; rfl); iexact H5

/-- The library's body obligation, nothing named. -/
theorem body_obligation (c : Dev nD) :
    BodyObligationLoose (dats (F := F) m 0 c) (defs₀ (F := F)) Variants.none () Set.univ (fun _ => true) := fun t => by
  rw [bigSep_W0]
  exact body_core c t _

/-- The frame: the launch ends with its three arguments as they were and every counter at zero. -/
theorem frame_run : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_forget cfgs (dats m) 0 launch0 defs₀ Variants.none (fun _ => true) m g main (body_obligation m)
    (fun c => (dats m 0 c).share_full fun _ => rfl) (fun _ _ => rfl) (V m) (hmain m Variants.none) (fun _ _ => rfl) (fun _ _ => rfl) _
    (fun r h => ⟨fun c => ⟨(h.1.arr_in c 1 rfl).trans (V_main_arg0 m c),
      ((h.1 c).2 main_arg1 (Pipeline.mem_restRefs_of main_arg1 (by decide) (by decide))).trans (V_main_arg1 m c),
      (h.1.arr_in c 0 rfl).trans (V_main_arg2 m c)⟩, h.2⟩)

end Cert.Proof.KernelIdeal

end
-- ==== Proof.RefRun.lean ====
/-
  The reference's run as a sequence of states: what one trip of its loop leaves in the carried arrays is `step`
  of what it found there, and the three results are read off the state after the last trip.
-/
module

public import proofs.«01_k».proof.Proof.Gen.ReferenceIdeal.Run
public import proofs.«01_k».proof.Proof.Gen.ReferenceIdeal.Step
public import Idealize.ShloMosaic.Lib.Quiescent

@[expose] public section

noncomputable section

namespace Cert.Proof.Ref

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state that a valuation holds in the loop's carried buffers. -/
def stateOf (V : Valuation τ sig (Elt F)) : State F where
  main_v47_4 := V (Proc.devRef .tc main_v47_4)
  main_v47_5 := V (Proc.devRef .tc main_v47_5)
  main_v47_6 := V (Proc.devRef .tc main_v47_6)
  main_v47_7 := V (Proc.devRef .tc main_v47_7)
  main_v47_0 := V (Proc.devRef .tc main_v47_0)
  main_v47_1 := V (Proc.devRef .tc main_v47_1)
  main_v47_2 := V (Proc.devRef .tc main_v47_2)

variable {V : Valuation τ sig (Elt F)} {j : ℕ}

/-- The trip's counter. -/
def Counts (V : Valuation τ sig (Elt F)) (j : ℕ) : Prop :=
  V (Proc.devRef .tc main_v47_3) = constantI S_ 32 (BitVec.ofNat 32 j)

set_option maxRecDepth 8192 in
/-- A trip's scores. -/
theorem trip_scores : step_main_v47_4 V = (step j (stateOf V)).main_v47_4 := by
  unfold step_main_v47_4
  rfl

set_option maxRecDepth 8192 in
/-- A trip's stack of labels. -/
theorem trip_labels (h : Counts V j) : step_main_v47_5 V = (step j (stateOf V)).main_v47_5 := by
  unfold step_main_v47_5
  unfold Counts at h
  rw [h]
  rfl

set_option maxRecDepth 8192 in
/-- A trip's stack of boxes. -/
theorem trip_boxes (h : Counts V j) : step_main_v47_6 V = (step j (stateOf V)).main_v47_6 := by
  unfold step_main_v47_6
  unfold Counts at h
  rw [h]
  rfl

set_option maxRecDepth 8192 in
/-- A trip's stack of scores. -/
theorem trip_stack (h : Counts V j) : step_main_v47_7 V = (step j (stateOf V)).main_v47_7 := by
  unfold step_main_v47_7
  unfold Counts at h
  rw [h]
  rfl

/-- The counter steps to the next number. -/
theorem trip_counter (h : Counts V j) : step_main_v47_3 V = constantI S_ 32 (BitVec.ofNat 32 (j + 1)) := by
  unfold step_main_v47_3
  unfold Counts at h
  rw [h]
  funext i
  show BitVec.ofNat 32 j + 1#32 = BitVec.ofNat 32 (j + 1)
  simp only [BitVec.ofNat_add]

/-- One trip steps the state and the counter. -/
theorem trip_state (h : Counts V j) :
    stateOf (STEP V) = step j (stateOf V) ∧ Counts (STEP V) (j + 1) := by
  refine ⟨?_, (STEP_main_v47_3 V).trans (trip_counter h)⟩
  unfold stateOf
  rw [STEP_main_v47_4, STEP_main_v47_5, STEP_main_v47_6, STEP_main_v47_7, STEP_main_v47_0, STEP_main_v47_1,
    STEP_main_v47_2, trip_scores (j := j), trip_labels h, trip_boxes h, trip_stack h]
  rfl

/-- The state before trip `k`, from the arguments. -/
def states (a0 : Vec F S8x20000x80 .f32) (a1 : Vec F S8x20000x4 .f32) (a2 : Vec F S8x2 .i32) :
    ℕ → State F
  | 0 => init a0 a1 a2
  | k + 1 => step k (states a0 a1 a2 k)

variable (m : (ℓ : Loc nD τ sig) → Buf (Elt F) ℓ) (c : Dev nD)

/-- The states of a core's run, from the memory it starts from. -/
abbrev statesOf : ℕ → State F :=
  states (m ((c.tc : Thread nD τ).loc main_arg0)) (m ((c.tc : Thread nD τ).loc main_arg1))
    (m ((c.tc : Thread nD τ).loc main_arg2))

/-- The valuation holds the state `s` and the number `j`. -/
structure Holds (V : Valuation τ sig (Elt F)) (s : State F) (j : ℕ) : Prop where
  f4 : V (Proc.devRef .tc main_v47_4) = s.main_v47_4
  f5 : V (Proc.devRef .tc main_v47_5) = s.main_v47_5
  f6 : V (Proc.devRef .tc main_v47_6) = s.main_v47_6
  f7 : V (Proc.devRef .tc main_v47_7) = s.main_v47_7
  f0 : V (Proc.devRef .tc main_v47_0) = s.main_v47_0
  f1 : V (Proc.devRef .tc main_v47_1) = s.main_v47_1
  f2 : V (Proc.devRef .tc main_v47_2) = s.main_v47_2
  count : V (Proc.devRef .tc main_v47_3) = constantI S_ 32 (BitVec.ofNat 32 j)

/-- The state the first trip finds. -/
abbrev first : State F :=
  init (m ((c.tc : Thread nD τ).loc main_arg0)) (m ((c.tc : Thread nD τ).loc main_arg1))
    (m ((c.tc : Thread nD τ).loc main_arg2))

set_option maxRecDepth 65536 in
set_option maxHeartbeats 1000000 in
/-- What stands before the loop. -/
theorem entry_holds : Holds (entryContents preI m c) (first m c) 0 := by
  constructor <;> (simp only [entryContents, afterL_cons, afterL_nil]; after_reads_simp) <;> rfl

/-- A valuation that holds a state is one whose carried buffers are that state. -/
theorem Holds.state {s : State F} (h : Holds V s j) : stateOf V = s ∧ Counts V j := by
  refine ⟨?_, h.count⟩
  unfold stateOf
  rw [h.f4, h.f5, h.f6, h.f7, h.f0, h.f1, h.f2]

/-- The results of a valuation, of its state. -/
theorem out_labels (V : Valuation τ sig (Elt F)) :
    out_main_v48 V = Cert.ReferenceIdeal.Step.R_main_v48 (stateOf V) := by
  unfold out_main_v48 Cert.ReferenceIdeal.Step.R_main_v48 stateOf
  rfl

/-- The results of a valuation, of its state. -/
theorem out_boxes (V : Valuation τ sig (Elt F)) :
    out_main_v49 V = Cert.ReferenceIdeal.Step.R_main_v49 (stateOf V) := by
  unfold out_main_v49 Cert.ReferenceIdeal.Step.R_main_v49 stateOf
  rfl

/-- The results of a valuation, of its state. -/
theorem out_scores (V : Valuation τ sig (Elt F)) :
    out_main_v50 V = Cert.ReferenceIdeal.Step.R_main_v50 (stateOf V) := by
  unfold out_main_v50 Cert.ReferenceIdeal.Step.R_main_v50 stateOf
  rfl

/-- Before trip `k` the loop holds state `k`. -/
theorem state_iter : ∀ k, stateOf (STEP^[k] (entryContents preI m c)) = statesOf m c k
    ∧ Counts (STEP^[k] (entryContents preI m c)) k
  | 0 => (entry_holds m c).state
  | k + 1 => by
    rw [Function.iterate_succ_apply']
    have h := state_iter k
    have h' := trip_state h.2
    rw [h.1] at h'
    exact h'

/-- The reference's results, read off its last state; its arguments are kept. -/
theorem run_states (ρ : Dev nD → PrngReg) :
    θ_run (defs (F := F)) (onTc (τ := τ) (main (F := F))) ⟨m, fun _ => 0, ρ⟩ fun r => ∀ c : Dev nD,
      r.2.mem ((c.tc : Thread nD τ).loc main_v48) = Cert.ReferenceIdeal.Step.R_main_v48 (statesOf m c 20)
      ∧ r.2.mem ((c.tc : Thread nD τ).loc main_v49) = Cert.ReferenceIdeal.Step.R_main_v49 (statesOf m c 20)
      ∧ r.2.mem ((c.tc : Thread nD τ).loc main_v50) = Cert.ReferenceIdeal.Step.R_main_v50 (statesOf m c 20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    have hk := (state_iter m c 20).1
    obtain ⟨h0, h1, h2, h3, h4, h5⟩ := h c
    refine ⟨h0.trans ((out_labels _).trans (by rw [hk])), h1.trans ((out_boxes _).trans (by rw [hk])),
      h2.trans ((out_scores _).trans (by rw [hk])), h3, h4, h5⟩) (Value.run m ρ)

/-- The reference's frame. -/
theorem frame_run (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2.2.2, sem_eq_zero_of_no_sems (by decide) r.2⟩) (run_states m ρ)

end Cert.Proof.Ref
end
-- ==== Proof.Spec.lean ====
/-
  The selection as mathematics on the extended reals, free of any program: per image the scores, labels and scaled
  corner coordinates of its boxes, the rounds that pick the greatest score and drop what overlaps it, and the folds
  by which the two programs find a greatest value and its first position.
-/
module

public import Idealize.ShloMosaic.PureOps.Ideal
public import Idealize.ShloMosaic.PureOps.Ideal.Laws
public import Idealize.ShloMosaic.Lib.Pointwise

@[expose] public section

noncomputable section

namespace Cert.Proof.Nms

open Idealize.ShloMosaic

/-! ## The first position of the greatest value -/

/-- `i` is the first position at which `x` is greatest. -/
def IsFirst {n : ℕ} (x : Fin n → EReal) (i : Fin n) : Prop :=
  (∀ j, x j ≤ x i) ∧ ∀ j, j < i → x j < x i

theorem exists_isFirst {n : ℕ} (x : Fin (n + 1) → EReal) : ∃ i, IsFirst x i := by
  obtain ⟨i₀, -, h₀⟩ := Finset.exists_max_image Finset.univ x ⟨0, Finset.mem_univ _⟩
  have hne : (Finset.univ.filter fun i => ∀ j, x j ≤ x i).Nonempty :=
    ⟨i₀, by simp only [Finset.mem_filter, Finset.mem_univ, true_and]; exact fun j => h₀ j (Finset.mem_univ _)⟩
  have hm := Finset.min'_mem _ hne
  refine ⟨_, (Finset.mem_filter.mp hm).2, fun j hj => ?_⟩
  refine lt_of_le_of_ne ((Finset.mem_filter.mp hm).2 j) fun he => ?_
  have : j ∈ Finset.univ.filter fun i => ∀ j, x j ≤ x i := by
    simp only [Finset.mem_filter, Finset.mem_univ, true_and]
    rw [he]
    exact (Finset.mem_filter.mp hm).2
  exact absurd (Finset.min'_le _ _ this) (not_le.mpr hj)

/-- The first position of the greatest value. -/
def best {n : ℕ} (x : Fin (n + 1) → EReal) : Fin (n + 1) := Classical.choose (exists_isFirst x)

theorem best_isFirst {n : ℕ} (x : Fin (n + 1) → EReal) : IsFirst x (best x) := Classical.choose_spec (exists_isFirst x)

theorem IsFirst.eq {n : ℕ} {x : Fin n → EReal} {i j : Fin n} (hi : IsFirst x i) (hj : IsFirst x j) : i = j := by
  rcases lt_trichotomy i j with h | h | h
  · exact absurd (hj.2 i h) (not_lt.mpr (hi.1 j))
  · exact h
  · exact absurd (hi.2 j h) (not_lt.mpr (hj.1 i))

/-! ## Folds -/

/-- The greatest value, as a fold from −∞. -/
theorem fold_max {ι : Type} [Fintype ι] (x : ι → EReal) (i : ι) (h : ∀ j, x j ≤ x i) :
    Finset.univ.fold max ⊥ x = x i := by
  apply le_antisymm
  · rw [Finset.fold_max_le]
    exact ⟨bot_le, fun j _ => h j⟩
  · rw [Finset.le_fold_max]
    exact Or.inr ⟨i, Finset.mem_univ _, le_rfl⟩

theorem le_fold {ι : Type} [Fintype ι] (x : ι → EReal) (y : EReal) (i : ι) (h : y ≤ x i) :
    y ≤ Finset.univ.fold max ⊥ x := by
  rw [Finset.le_fold_max]
  exact Or.inr ⟨i, Finset.mem_univ _, h⟩

theorem fold_le {ι : Type} [Fintype ι] (x : ι → EReal) (y : EReal) (h : ∀ i, x i ≤ y) :
    Finset.univ.fold max ⊥ x ≤ y := by
  rw [Finset.fold_max_le]
  exact ⟨bot_le, fun j _ => h j⟩

/-- The only value that stands among −∞, as a fold from −∞. -/
theorem fold_pick {ι : Type} [Fintype ι] [DecidableEq ι] (x : ι → EReal) (i : ι) :
    Finset.univ.fold max ⊥ (fun j => if j = i then x j else ⊥) = x i := by
  rw [fold_max _ i]
  · simp
  · intro j
    by_cases hj : j = i
    · rw [hj]
    · simp [hj]

theorem toInt_minsi (a b : BitVec 32) : (IntOp.minsi a b).toInt = min a.toInt b.toInt := by
  unfold IntOp.minsi
  split <;> rename_i h <;> simp only [BitVec.sle, BitVec.slt, decide_eq_true_eq] at h <;> omega

theorem toInt_maxsi (a b : BitVec 32) : (IntOp.maxsi a b).toInt = max a.toInt b.toInt := by
  unfold IntOp.maxsi
  split <;> rename_i h <;> simp only [BitVec.sle, BitVec.slt, decide_eq_true_eq] at h <;> omega

/-- The least word, as a fold from the greatest. -/
theorem fold_minsi {ι : Type} [Fintype ι] (w : ι → BitVec 32) (i : ι) (h : ∀ j, (w i).toInt ≤ (w j).toInt) :
    Finset.univ.fold IntOp.minsi 2147483647#32 w = w i := by
  apply BitVec.eq_of_toInt_eq
  have e := Finset.fold_hom (op := IntOp.minsi) (op' := (min : ℤ → ℤ → ℤ)) (m := BitVec.toInt) (b := 2147483647#32)
    (s := Finset.univ) (f := w) toInt_minsi
  rw [← e]
  apply le_antisymm
  · rw [Finset.fold_min_le]
    exact Or.inr ⟨i, Finset.mem_univ _, le_rfl⟩
  · rw [Finset.le_fold_min]
    refine ⟨?_, fun j _ => h j⟩
    have := BitVec.toInt_lt (x := w i)
    have e : (2147483647#32 : BitVec 32).toInt = 2147483647 := by decide
    rw [e]
    norm_num at this
    omega

/-- The greatest word, as a fold from the least. -/
theorem fold_maxsi {ι : Type} [Fintype ι] (w : ι → BitVec 32) (i : ι) (h : ∀ j, (w j).toInt ≤ (w i).toInt) :
    Finset.univ.fold IntOp.maxsi 2147483648#32 w = w i := by
  apply BitVec.eq_of_toInt_eq
  have e := Finset.fold_hom (op := IntOp.maxsi) (op' := (max : ℤ → ℤ → ℤ)) (m := BitVec.toInt) (b := 2147483648#32)
    (s := Finset.univ) (f := w) toInt_maxsi
  rw [← e]
  apply le_antisymm
  · rw [Finset.fold_max_le]
    refine ⟨?_, fun j _ => h j⟩
    have := BitVec.le_toInt (x := w i)
    have e : (2147483648#32 : BitVec 32).toInt = -2147483648 := by decide
    rw [e]
    norm_num at this
    omega
  · rw [Finset.le_fold_max]
    exact Or.inr ⟨i, Finset.mem_univ _, le_rfl⟩

theorem toInt_small (k : ℕ) (h : k < 2147483648) : (BitVec.ofNat 32 k).toInt = k := by
  rw [BitVec.toInt_eq_toNat_cond, BitVec.toNat_ofNat]
  have : k % 2 ^ 32 = k := Nat.mod_eq_of_lt (by omega)
  rw [this]
  split <;> omega

/-! ## Constants -/

theorem ofBits_neg_inf : Ideal.ofBits .f32 4286578688#32 = ⊥ := by
  simp [Ideal.ofBits, Ideal.ieee]

/-- The least score that is kept, the overlap that is dropped beyond, the term that keeps the quotient from `0 / 0`,
    one half: the numbers that their words are. -/
def thr : EReal := Ideal.ofBits .f32 1058642330#32
def half : EReal := Ideal.ofBits .f32 1056964608#32
def eps : EReal := Ideal.ofBits .f32 814313567#32

/-! ## One image -/

/-- The arguments of the two programs, as functions of their coordinates. -/
structure Args where
  /-- Logits by image, box and class. -/
  lg : Fin 8 → Fin 20000 → Fin 80 → EReal
  /-- Boxes by image, box and coordinate: centre and extent. -/
  bx : Fin 8 → Fin 20000 → Fin 4 → EReal
  /-- Sizes by image. -/
  sz : Fin 8 → Fin 2 → BitVec 32

variable (A : Args) (b : Fin 8)

/-- The class of a box: its first greatest logit. -/
def cls (n : Fin 20000) : Fin 80 := best (A.lg b n)

/-- The class as a word. -/
def lab (n : Fin 20000) : BitVec 32 := BitVec.ofNat 32 (cls A b n).val

/-- The score of a box, −∞ unless it is above the threshold. -/
def score (n : Fin 20000) : EReal :=
  if thr < Ideal.logistic (A.lg b n (cls A b n)) then Ideal.logistic (A.lg b n (cls A b n)) else ⊥

/-- The size that scales a coordinate. -/
def scale (q : Fin 4) : EReal := (((A.sz b ⟨q.val % 2, Nat.mod_lt _ (by decide)⟩).toInt : ℝ) : EReal)

/-- A corner coordinate of a box: the two lower ones and then the two upper ones, scaled. -/
def coord (q : Fin 4) (n : Fin 20000) : EReal :=
  (if h : q.val < 2 then A.bx b n q - half * A.bx b n ⟨2 + q.val, by omega⟩
    else A.bx b n ⟨q.val - 2, by omega⟩ + half * A.bx b n q) * scale A b q

/-- The greatest magnitude of a coordinate of the image, and one more. -/
def extent : EReal :=
  Finset.univ.fold max ⊥ (fun x : Fin 20000 × Fin 4 => max (coord A b x.2 x.1) (-coord A b x.2 x.1)) + 1

/-- What moves a class's boxes away from those of the others. -/
def shift (n : Fin 20000) : EReal := (((lab A b n).toInt : ℝ) : EReal) * extent A b

/-- A shifted coordinate. -/
def moved (q : Fin 4) (n : Fin 20000) : EReal := coord A b q n + shift A b n

/-- What two boxes share, -/
def shared (i n : Fin 20000) : EReal :=
  max (min (moved A b 2 n) (moved A b 2 i) - max (moved A b 0 n) (moved A b 0 i)) 0
    * max (min (moved A b 3 n) (moved A b 3 i) - max (moved A b 1 n) (moved A b 1 i)) 0

/-- a box's area, -/
def area (n : Fin 20000) : EReal := (moved A b 2 n - moved A b 0 n) * (moved A b 3 n - moved A b 1 n)

/-- and their overlap. -/
def overlap (i n : Fin 20000) : EReal :=
  Ideal.div (shared A b i n) (area A b i + area A b n - shared A b i n + eps)

/-- The scores before round `k`: a round takes the first greatest score and drops its box and those that overlap it. -/
def scoreAt : ℕ → Fin 20000 → EReal
  | 0 => score A b
  | k + 1 => fun n => if n = best (scoreAt k) then ⊥ else if half < overlap A b (best (scoreAt k)) n then ⊥ else scoreAt k n

/-- The box that round `k` takes. -/
def pick (k : ℕ) : Fin 20000 := best (scoreAt A b k)

/-! ## Past the last box

The kernel works on whole blocks of 1024 boxes, 20480 in all: what lies past the last box is −∞, the class 0 and the
coordinate 0. -/

/-- Scores with what lies past the last box. -/
def padded (s : Fin 20000 → EReal) (n : ℕ) : EReal := if h : n < 20000 then s ⟨n, h⟩ else ⊥

/-- Classes with what lies past the last box. -/
def padLab (n : ℕ) : BitVec 32 := if h : n < 20000 then lab A b ⟨n, h⟩ else 0#32

/-- Coordinates with what lies past the last box. -/
def padCoord (q : Fin 4) (n : ℕ) : EReal := if h : n < 20000 then coord A b q ⟨n, h⟩ else 0

/-- The greatest magnitude, over the blocks up to `j`, of a coordinate at one place in its block. -/
def runMax (q : Fin 4) (l : ℕ) : ℕ → EReal
  | 0 => max (padCoord A b q l) (-padCoord A b q l)
  | j + 1 => max (runMax q l j) (max (padCoord A b q ((j + 1) * 1024 + l)) (-padCoord A b q ((j + 1) * 1024 + l)))

theorem runMax_le_iff (q : Fin 4) (l : ℕ) (x : EReal) : ∀ j, runMax A b q l j ≤ x ↔
    ∀ i, i ≤ j → max (padCoord A b q (i * 1024 + l)) (-padCoord A b q (i * 1024 + l)) ≤ x
  | 0 => by
    unfold runMax
    constructor
    · intro h i hi
      obtain rfl : i = 0 := by omega
      simpa using h
    · intro h
      simpa using h 0 le_rfl
  | j + 1 => by
    rw [runMax, max_le_iff, runMax_le_iff q l x j]
    constructor
    · rintro ⟨h, h'⟩ i hi
      rcases Nat.lt_or_ge i (j + 1) with hl | hl
      · exact h i (by omega)
      · obtain rfl : i = j + 1 := by omega
        exact h'
    · intro h
      exact ⟨fun i hi => h i (by omega), h (j + 1) le_rfl⟩

/-- The greatest magnitude over the blocks is that of the image. -/
theorem fold_runMax : Finset.univ.fold max ⊥ (fun x : Fin 4 × Fin 1024 => runMax A b x.1 x.2.val 19) + 1 = extent A b := by
  unfold extent
  refine congrArg (fun z : EReal => z + 1) ?_
  apply le_antisymm
  · refine fold_le _ _ fun x => ?_
    rw [runMax_le_iff]
    intro i hi
    by_cases h : i * 1024 + x.2.val < 20000
    · refine le_fold _ _ (⟨i * 1024 + x.2.val, h⟩, x.1) ?_
      simp only [padCoord, dif_pos h]
      exact le_rfl
    · refine le_fold _ _ (⟨0, Nat.zero_lt_succ _⟩, x.1) ?_
      simp only [padCoord, dif_neg h]
      simp only [neg_zero, max_self]
      rcases le_total 0 (coord A b x.1 ⟨0, Nat.zero_lt_succ _⟩) with hc | hc
      · exact le_max_of_le_left hc
      · refine le_max_of_le_right ?_
        rw [EReal.le_neg, neg_zero]
        exact hc
  · refine fold_le _ _ fun x => ?_
    refine le_fold _ _ (x.2, ⟨x.1.val % 1024, Nat.mod_lt _ (by decide)⟩) ?_
    have h := (runMax_le_iff A b x.2 (x.1.val % 1024) _ 19).mp le_rfl (x.1.val / 1024) (by have := x.1.isLt; omega)
    have e : x.1.val / 1024 * 1024 + x.1.val % 1024 = x.1.val := by omega
    rw [e] at h
    simpa only [padCoord, dif_pos x.1.isLt] using h

end Cert.Proof.Nms
end
-- ==== Proof.Block.lean ====
/-
  What a grid point stores into the scratch buffers: the scores, labels, corner coordinates and magnitudes of its
  block's boxes, with what lies past the last box.
-/
module

public import proofs.«01_k».proof.Proof.KernelIdealBody
public import proofs.«01_k».proof.Proof.Spec
public import Idealize.ShloMosaic.Lib.Pointwise
public import Idealize.ShloMosaic.PureOps.Ideal
public import Idealize.ShloMosaic.PureOps.Ideal.Laws

@[expose] public section

noncomputable section

namespace Cert.Proof.KernelIdeal

open Cert.KernelIdeal Cert.KernelIdeal.Gen Cert.Proof.Nms
open Idealize.ShloMosaic

set_option maxRecDepth 16384

/-- The test that a box's number is one of the image's. -/
theorem inside_word (j n : ℕ) (hj : j < 20) (hn : n < 1024) :
    IntOp.cmpi .slt (IntOp.addi (Scalar.muli (BitVec.ofNat 32 j) 1024#32) (BitVec.ofNat 32 n)) 20000#32
      = if j * 1024 + n < 20000 then 1#1 else 0#1 := by
  have e : IntOp.addi (Scalar.muli (BitVec.ofNat 32 j) 1024#32) (BitVec.ofNat 32 n) = BitVec.ofNat 32 (j * 1024 + n) := by
    simp only [IntOp.addi, Scalar.muli, IntOp.muli, BitVec.ofNat_add, BitVec.ofNat_mul]
  rw [e]
  unfold IntOp.cmpi
  simp only [BitVec.slt]
  rw [toInt_small _ (by omega), toInt_small 20000 (by omega)]
  by_cases h : j * 1024 + n < 20000
  · rw [if_pos h, decide_eq_true (by exact_mod_cast h)]
    rfl
  · rw [if_neg h, decide_eq_false (by exact_mod_cast h)]
    rfl

variable (A : Args) (i : grid0.Coords) (b : Fin 8) (j : Fin 20) (hj : (i 1).val = j.val)

/-- A staged block of logits holds the image's where the block lies in it. -/
def Logits (X : Vec Ideal S1x1024x80 .f32) : Prop :=
  ∀ (n : Fin 1024) (h : j.val * 1024 + n.val < 20000) (q : Fin 80), X (ix3 0 n q) = A.lg b ⟨j.val * 1024 + n.val, h⟩ q

/-- A staged block of boxes holds the image's where the block lies in it. -/
def Boxes (X : Vec Ideal S1x4x1024 .f32) : Prop :=
  ∀ (n : Fin 1024) (h : j.val * 1024 + n.val < 20000) (q : Fin 4), X (ix3 0 q n) = A.bx b ⟨j.val * 1024 + n.val, h⟩ q

section

variable {A b j} {X : Vec Ideal S1x1024x80 .f32} (hX : Logits A b j X)

include hX

/-- The greatest logit of a box. -/
theorem max_logit (n : Fin 1024) (h : j.val * 1024 + n.val < 20000) :
    Finset.univ.fold max (Ideal.ofBits .f32 4286578688#32) (fun x : Fin 80 => X (ix3 0 n x))
      = A.lg b ⟨j.val * 1024 + n.val, h⟩ (cls A b ⟨j.val * 1024 + n.val, h⟩) := by
  rw [ofBits_neg_inf]
  simp only [hX n h]
  exact fold_max _ _ (best_isFirst _).1

include hj

theorem pay39_at (r : Fin 8) (l : Fin 128) :
    k0_pay39 i X (ix4 0 0 r l) = padded (score A b) (j.val * 1024 + r.val * 128 + l.val) := by
  pointwise [k0_pay39, k0_pay38, k0_pay37, k0_pay36]
  rw [hj, inside_word _ _ j.isLt (by omega), Nat.add_assoc]
  by_cases h : j.val * 1024 + (r.val * 128 + l.val) < 20000
  · rw [if_pos h, padded, dif_pos h, max_logit hX ⟨r.val * 128 + l.val, by omega⟩ h]
    unfold score
    by_cases ht : thr < Ideal.logistic (A.lg b ⟨j.val * 1024 + (r.val * 128 + l.val), h⟩ (cls A b ⟨j.val * 1024 + (r.val * 128 + l.val), h⟩))
    · rw [if_pos ht]
      unfold thr at ht
      simp [ht, IntOp.andi, Scalar.select]
    · rw [if_neg ht]
      unfold thr at ht
      simp [ht, IntOp.andi, Scalar.select, ofBits_neg_inf]
  · rw [if_neg h, padded, dif_neg h]
    simp [IntOp.andi, Scalar.select, ofBits_neg_inf]

theorem pay40_at (r : Fin 8) (l : Fin 128) :
    k0_pay40 i X (ix4 0 0 r l) = padLab A b (j.val * 1024 + r.val * 128 + l.val) := by
  pointwise [k0_pay40, k0_pay38, k0_pay37, k0_pay36]
  rw [hj, inside_word _ _ j.isLt (by omega), Nat.add_assoc]
  by_cases h : j.val * 1024 + (r.val * 128 + l.val) < 20000
  · rw [if_pos h, padLab, dif_pos h, max_logit hX ⟨r.val * 128 + l.val, by omega⟩ h]
    have hf := hX ⟨r.val * 128 + l.val, by omega⟩ h
    generalize (⟨j.val * 1024 + (r.val * 128 + l.val), h⟩ : Fin 20000) = n at hf
    generalize (⟨r.val * 128 + l.val, _⟩ : Fin 1024) = n' at hf
    simp only [hf]
    rw [fold_minsi _ (cls A b n)]
    · simp only [if_true]
      rfl
    · intro q
      rw [if_pos rfl, toInt_small _ (by omega)]
      split
      · rename_i hq
        rw [toInt_small _ (by omega)]
        by_contra hlt
        have hlt' : q < cls A b n := by
          rw [Fin.lt_def]
          exact_mod_cast not_le.mp hlt
        exact absurd hq (ne_of_lt ((best_isFirst (A.lg b n)).2 q hlt'))
      · have e : (1073741824#32 : BitVec 32).toInt = 1073741824 := by decide
        rw [e]
        omega
  · rw [if_neg h, padLab, dif_neg h]
    simp [Scalar.select]

end

section

variable {A b j} {X : Vec Ideal S1x4x1024 .f32} (hX : Boxes A b j X) (hb : (i 0).val = b.val) {X0 : Vec Ideal S8x2 .i32}
  (h0 : ∀ (b : Fin 8) (q : Fin 2), X0 (ix2 b q) = A.sz b q)

include hj hX hb h0

/-- A coordinate of a staged block. -/
theorem xy_at (q : Fin 4) (n : Fin 1024) :
    Scalar.select (IntOp.cmpi .slt (IntOp.addi (Scalar.muli (BitVec.ofNat 32 (i 1).val) 1024#32) (BitVec.ofNat 32 n.val)) 20000#32)
      (xyOf i X0 X (ix2 q n)) (0 : EReal) = padCoord A b q (j.val * 1024 + n.val) := by
  rw [hj, inside_word _ _ j.isLt n.isLt]
  by_cases h : j.val * 1024 + n.val < 20000
  · rw [if_pos h, padCoord, dif_pos h]
    have e2 : (Rect.unit (s := S8x2) (k0_off2 i) S1x1.size (k0_off2_inb i)).idx (Shape.Idx.first (s := S1x1) (numel1_S1x1.symm ▸ Nat.one_pos)) = ix2 b 0 := by
      funext a
      apply Fin.ext
      rw [LoadRect.idx_apply]
      have := congrFun (k0_off2_eq i) a
      fin_cases a
      · change k0_off2 i 0 + 1 * 0 = b.val
        rw [k0_off2_eq]
        exact hb
      · change k0_off2 i 1 + 1 * 0 = 0
        rw [k0_off2_eq]
        rfl
    have e3 : (Rect.unit (s := S8x2) (k0_off3 i) S1x1.size (k0_off3_inb i)).idx (Shape.Idx.first (s := S1x1) (numel1_S1x1.symm ▸ Nat.one_pos)) = ix2 b 1 := by
      funext a
      apply Fin.ext
      rw [LoadRect.idx_apply]
      have := congrFun (k0_off3_eq i) a
      fin_cases a
      · change k0_off3 i 0 + 1 * 0 = b.val
        rw [k0_off3_eq]
        exact hb
      · change k0_off3 i 1 + 1 * 0 = 1
        rw [k0_off3_eq]
        rfl
    unfold xyOf
    rw [e2, e3, h0, h0]
    unfold coord scale half
    pointwise [k0_pay41]
    have hp : ∀ z x y : EReal, x = y → z * x = z * y := fun z x y h => by rw [h]
    fin_cases q
    · simp [hX n h, Scalar.select]
      exact hp _ _ _ (if_pos (by decide))
    · simp [hX n h, Scalar.select]
      exact hp _ _ _ (if_neg (by decide))
    · simp [hX n h, Scalar.select]
      exact hp _ _ _ (if_pos (by decide))
    · simp [hX n h, Scalar.select]
      exact hp _ _ _ (if_neg (by decide))
  · rw [if_neg h, padCoord, dif_neg h]
    simp [Scalar.select]

theorem pay2_at (q : Fin 4) (r : Fin 8) (l : Fin 128) :
    k0_pay2 (xyOf i X0 X) (vmask i) k0_pay43 (ix5 0 q 0 r l) = padCoord A b q (j.val * 1024 + r.val * 128 + l.val) := by
  rw [Nat.add_assoc]
  refine Eq.trans ?_ (xy_at i hj hX hb h0 q ⟨r.val * 128 + l.val, by omega⟩)
  unfold vmask
  pointwise [k0_pay2, k0_pay1, k0_pay42, k0_pay43]

theorem pay4_at (q : Fin 4) (n : Fin 1024) :
    k0_pay4 (xyOf i X0 X) (vmask i) k0_pay43 (ix3 0 q n)
      = max (padCoord A b q (j.val * 1024 + n.val)) (-padCoord A b q (j.val * 1024 + n.val)) := by
  rw [← xy_at i hj hX hb h0 q n]
  unfold vmask
  pointwise [k0_pay4, k0_pay3, k0_pay1, k0_pay42, k0_pay43]
  rfl

theorem pay5_at (W : Vec Ideal S1x4x1024 .f32) (q : Fin 4) (n : Fin 1024) :
    k0_pay5 (xyOf i X0 X) (vmask i) k0_pay43 W (ix3 0 q n)
      = max (W (ix3 0 q n)) (max (padCoord A b q (j.val * 1024 + n.val)) (-padCoord A b q (j.val * 1024 + n.val))) := by
  rw [← xy_at i hj hX hb h0 q n]
  unfold vmask
  pointwise [k0_pay5, k0_pay3, k0_pay1, k0_pay42, k0_pay43]
  rfl

end

end Cert.Proof.KernelIdeal
end
-- ==== Proof.TripValue.lean ====
/-
  What the kernel's selection loop computes: a trip takes the box that the specification's round takes, so that after
  the last one its results hold the taken boxes' labels, scores and coordinates.
-/
module

public import proofs.«01_k».proof.Proof.KernelIdealBody
public import proofs.«01_k».proof.Proof.Spec
public import Idealize.ShloMosaic.Lib.Pointwise
public import Idealize.ShloMosaic.PureOps.Ideal
public import Idealize.ShloMosaic.PureOps.Ideal.Laws

@[expose] public section

noncomputable section

namespace Cert.Proof.KernelIdeal

open Cert.KernelIdeal Cert.KernelIdeal.Gen Cert.Proof.Nms
open Idealize.ShloMosaic

set_option maxRecDepth 16384

variable (A : Args)

/-- A place of the padded arrays and the number of its box. -/
abbrev num (x : Fin 160 × Fin 128) : ℕ := x.1.val * 128 + x.2.val

/-- The place of a box. -/
def place (n : Fin 20000) : Fin 160 × Fin 128 := (⟨n.val / 128, by omega⟩, ⟨n.val % 128, by omega⟩)

theorem num_place (n : Fin 20000) : num (place n) = n.val := by
  simp only [num, place]
  omega

theorem num_inj {x y : Fin 160 × Fin 128} (h : num x = num y) : x = y := by
  obtain ⟨⟨a, ha⟩, ⟨c, hc⟩⟩ := x
  obtain ⟨⟨a', ha'⟩, ⟨c', hc'⟩⟩ := y
  simp only [num] at h
  simp only [Prod.mk.injEq, Fin.mk.injEq]
  omega

theorem num_lt (x : Fin 160 × Fin 128) : num x < 20480 := by
  have := x.1.isLt
  have := x.2.isLt
  simp only [num]
  omega

/-- The word of a place's number. -/
theorem flat_word (x : Fin 160 × Fin 128) :
    IntOp.addi (IntOp.muli (BitVec.ofNat 32 x.1.val) 128#32) (BitVec.ofNat 32 x.2.val) = BitVec.ofNat 32 (num x) := by
  simp only [IntOp.addi, IntOp.muli, num, BitVec.ofNat_add, BitVec.ofNat_mul]

/-- The running scores hold the specification's scores before round `k`. -/
def Scores (k : ℕ) (S : FVec Ideal S8x160x128 .f32) : Prop :=
  ∀ (b : Fin 8) (x : Fin 160 × Fin 128), S (ix3 b x.1 x.2) = padded (scoreAt A b k) (num x)

section

variable {A} {k : ℕ} {S : FVec Ideal S8x160x128 .f32} (hS : Scores A k S) (b : Fin 8)

include hS

theorem scores_le (x : Fin 160 × Fin 128) : S (ix3 b x.1 x.2) ≤ scoreAt A b k (pick A b k) := by
  rw [hS b x, padded]
  split
  · exact (best_isFirst _).1 _
  · exact bot_le

theorem scores_at : S (ix3 b (place (pick A b k)).1 (place (pick A b k)).2) = scoreAt A b k (pick A b k) := by
  rw [hS b, padded, dif_pos (by rw [num_place]; exact (pick A b k).isLt)]
  congr 1
  exact Fin.ext (num_place _)

/-- The greatest running score. -/
theorem fold_scores : Finset.univ.fold max (Ideal.ofBits .f32 4286578688#32)
    (fun x : Fin 160 × Fin 128 => S (ix3 b x.1 x.2)) = scoreAt A b k (pick A b k) := by
  rw [ofBits_neg_inf, fold_max _ (place (pick A b k)), scores_at hS]
  intro j
  rw [scores_at hS]
  exact scores_le hS b j

theorem pay17_at : k0_pay17 S (ix1 b) = scoreAt A b k (pick A b k) := by
  pointwise [k0_pay17]
  exact fold_scores hS b

/-- The mask of the taken box. -/
theorem pay18_at (x : Fin 160 × Fin 128) :
    k0_pay18 k0_pay34 S (ix3 b x.1 x.2) = if x = place (pick A b k) then 1#1 else 0#1 := by
  pointwise [k0_pay18, k0_pay17, k0_pay34]
  rw [fold_scores hS b]
  simp only [flat_word]
  have hf := fold_minsi (fun y : Fin 160 × Fin 128 => if S (ix3 b y.1 y.2) = scoreAt A b k (pick A b k) then
      IntOp.addi (IntOp.muli (BitVec.ofNat 32 y.1.val) 128#32) (BitVec.ofNat 32 y.2.val) else 1073741824#32) (place (pick A b k)) (by
    intro j
    simp only [flat_word]
    rw [if_pos (scores_at hS b), toInt_small _ (by have := num_lt (place (pick A b k)); omega)]
    split
    · rename_i h
      rw [toInt_small _ (by have := num_lt j; omega)]
      rw [num_place]
      by_contra hlt
      have hlt' : num j < (pick A b k).val := by exact_mod_cast not_le.mp hlt
      have hn : num j < 20000 := lt_trans hlt' (pick A b k).isLt
      rw [hS b j, padded, dif_pos hn] at h
      exact absurd h (ne_of_lt ((best_isFirst (scoreAt A b k)).2 ⟨num j, hn⟩ hlt'))
    · have e : (1073741824#32 : BitVec 32).toInt = 1073741824 := by decide
      rw [e]
      have := num_lt (place (pick A b k))
      omega)
  simp only [flat_word] at hf
  rw [hf, if_pos (scores_at hS b)]
  unfold IntOp.cmpi
  by_cases h : x = place (pick A b k)
  · subst h
    simp
  · rw [if_neg h]
    have : BitVec.ofNat 32 (num x) ≠ BitVec.ofNat 32 (num (place (pick A b k))) := by
      intro he
      have := congrArg BitVec.toNat he
      simp only [BitVec.toNat_ofNat] at this
      have h1 := num_lt x
      have h2 := num_lt (place (pick A b k))
      rw [Nat.mod_eq_of_lt (by omega), Nat.mod_eq_of_lt (by omega)] at this
      exact h (num_inj this)
    simp only [beq_false_of_ne this]
    rfl

/-- What stands at the taken box's place. -/
theorem pay19_at (X : FVec Ideal S8x160x128 .f32) :
    k0_pay19 X k0_pay34 S (ix1 b) = X (ix3 b (place (pick A b k)).1 (place (pick A b k)).2) := by
  pointwise [k0_pay19]
  rw [ofBits_neg_inf]
  refine (congrArg (fun f => Finset.univ.fold max ⊥ f) (funext fun x => ?_)).trans
    (fold_pick (fun x : Fin 160 × Fin 128 => X (ix3 b x.1 x.2)) (place (pick A b k)))
  rw [pay18_at hS b x]
  by_cases h : x = place (pick A b k)
  · simp [h, Scalar.select]
  · simp [h, Scalar.select]

theorem pay20_at (X : FVec Ideal S8x160x128 .f32) :
    k0_pay20 X k0_pay34 S (ix1 b) = X (ix3 b (place (pick A b k)).1 (place (pick A b k)).2) := pay19_at hS b X
theorem pay21_at (X : FVec Ideal S8x160x128 .f32) :
    k0_pay21 X k0_pay34 S (ix1 b) = X (ix3 b (place (pick A b k)).1 (place (pick A b k)).2) := pay19_at hS b X
theorem pay22_at (X : FVec Ideal S8x160x128 .f32) :
    k0_pay22 X k0_pay34 S (ix1 b) = X (ix3 b (place (pick A b k)).1 (place (pick A b k)).2) := pay19_at hS b X

/-- The label at the taken box's place. -/
theorem pay23_at (L : IVec S8x160x128 32) (hL : 0 ≤ (L (ix3 b (place (pick A b k)).1 (place (pick A b k)).2)).toInt) :
    k0_pay23 L k0_pay34 S (ix1 b) = L (ix3 b (place (pick A b k)).1 (place (pick A b k)).2) := by
  pointwise [k0_pay23]
  have e : (4294967295#32 : BitVec 32).toInt = -1 := by decide
  have hp : Scalar.select (k0_pay18 k0_pay34 S (ix3 b (place (pick A b k)).1 (place (pick A b k)).2))
      (L (ix3 b (place (pick A b k)).1 (place (pick A b k)).2)) 4294967295#32
      = L (ix3 b (place (pick A b k)).1 (place (pick A b k)).2) := by
    rw [pay18_at hS b]
    simp [Scalar.select]
  rw [fold_maxsi _ (place (pick A b k)), hp]
  intro x
  rw [hp, pay18_at hS b x]
  by_cases h : x = place (pick A b k)
  · simp [h, Scalar.select]
  · simp only [h, if_false, Scalar.select]
    simp
    omega

end

end Cert.Proof.KernelIdeal
end
-- ==== Proof.TripLoop.lean ====
/-
  The kernel's selection loop over its trips: the running scores are the specification's, and the columns up to the
  trip hold the taken boxes' scores, labels and coordinates.
-/
module

public import proofs.«01_k».proof.Proof.TripValue

@[expose] public section

noncomputable section

namespace Cert.Proof.KernelIdeal

open Cert.KernelIdeal Cert.KernelIdeal.Gen Cert.Proof.Nms
open Idealize.ShloMosaic

set_option maxRecDepth 16384

variable (A : Args)

/-- The place of a box's number is that box's. -/
theorem place_num (x : Fin 160 × Fin 128) (h : num x < 20000) : place ⟨num x, h⟩ = x := num_inj (num_place _)

/-- What is bound before the loop, as the specification names it. -/
structure Bound (L : IVec S8x160x128 32) (mc : FVec Ideal S8 .f32) (x1 y1 x2 y2 ar : FVec Ideal S8x160x128 .f32) : Prop where
  L : ∀ b n, L (ix3 b (place n).1 (place n).2) = lab A b n
  mc : ∀ b, mc (ix1 b) = extent A b
  x1 : ∀ b n, x1 (ix3 b (place n).1 (place n).2) = moved A b 0 n
  y1 : ∀ b n, y1 (ix3 b (place n).1 (place n).2) = moved A b 1 n
  x2 : ∀ b n, x2 (ix3 b (place n).1 (place n).2) = moved A b 2 n
  y2 : ∀ b n, y2 (ix3 b (place n).1 (place n).2) = moved A b 3 n
  ar : ∀ b n, ar (ix3 b (place n).1 (place n).2) = area A b n

/-- What a column holds of a taken box: its score, label and coordinates. -/
structure Column (a : Acc Ideal) (b : Fin 8) (r : Fin 20) : Prop where
  score : a.2.1 (ix2 b r) = scoreAt A b r.val (pick A b r.val)
  label : a.2.2.1 (ix2 b r) = lab A b (pick A b r.val)
  x1 : a.2.2.2.1 (ix2 b r) = moved A b 0 (pick A b r.val) - shift A b (pick A b r.val)
  y1 : a.2.2.2.2.1 (ix2 b r) = moved A b 1 (pick A b r.val) - shift A b (pick A b r.val)
  x2 : a.2.2.2.2.2.1 (ix2 b r) = moved A b 2 (pick A b r.val) - shift A b (pick A b r.val)
  y2 : a.2.2.2.2.2.2 (ix2 b r) = moved A b 3 (pick A b r.val) - shift A b (pick A b r.val)

theorem toInt_lab (b : Fin 8) (n : Fin 20000) : 0 ≤ (lab A b n).toInt := by
  unfold lab
  rw [toInt_small _ (by have := (cls A b n).isLt; omega)]
  omega

section

variable {A} {L : IVec S8x160x128 32} {mc : FVec Ideal S8 .f32} {x1 y1 x2 y2 ar : FVec Ideal S8x160x128 .f32}
  (hB : Bound A L mc x1 y1 x2 y2 ar) {k : ℕ} {S : FVec Ideal S8x160x128 .f32} (hS : Scores A k S) (b : Fin 8)

include hB hS

theorem pay24_at (n : Fin 20000) :
    k0_pay24 x1 y1 x2 y2 k0_pay34 S (ix3 b (place n).1 (place n).2) = shared A b (pick A b k) n := by
  pointwise [k0_pay24]
  rw [pay19_at hS, pay20_at hS, pay21_at hS, pay22_at hS]
  rw [hB.x1, hB.x1, hB.y1, hB.y1, hB.x2, hB.x2, hB.y2, hB.y2]
  rfl

/-- A trip's running scores are the next round's. -/
theorem scores_succ : Scores A (k + 1) (k0_pay7 ar S (k0_pay18 k0_pay34 S) (k0_pay19 x1 k0_pay34 S)
    (k0_pay20 y1 k0_pay34 S) (k0_pay21 x2 k0_pay34 S) (k0_pay22 y2 k0_pay34 S) (k0_pay24 x1 y1 x2 y2 k0_pay34 S)) := by
  intro b x
  pointwise [k0_pay7]
  rw [ofBits_neg_inf, pay18_at hS b x, hS b x]
  by_cases hx : num x < 20000
  · rw [padded, padded, dif_pos hx, dif_pos hx]
    have e := place_num x hx
    generalize (⟨num x, hx⟩ : Fin 20000) = n at *
    subst e
    rw [pay19_at hS, pay20_at hS, pay21_at hS, pay22_at hS, pay24_at hB hS, hB.x1, hB.y1, hB.x2, hB.y2, hB.ar]
    rw [scoreAt]
    beta_reduce
    have hp : (place n = place (pick A b k)) ↔ n = best (scoreAt A b k) := by
      constructor
      · intro h
        have := congrArg num h
        rw [num_place, num_place] at this
        exact Fin.ext this
      · intro h
        rw [h]
        rfl
    by_cases h : n = best (scoreAt A b k)
    · rw [if_pos (hp.mpr h), if_pos h]
      rfl
    · rw [if_neg (fun h' => h (hp.mp h')), if_neg h]
      rfl
  · rw [padded, padded, dif_neg hx, dif_neg hx]
    simp [Scalar.select]

end

/-- The word that a column's number is compared with. -/
theorem col_word (k : ℕ) (hk : k < 20) (r : Fin 20) :
    IntOp.cmpi .eq (BitVec.ofNat 32 r.val) (Scf.iv 0#32 1#32 k) = if r.val = k then 1#1 else 0#1 := by
  have e' : Scf.iv 0#32 1#32 k = BitVec.ofNat 32 k := by
    simp [Scf.iv]
  rw [e']
  unfold IntOp.cmpi
  by_cases h : r.val = k
  · rw [h]
    simp
  · rw [if_neg h]
    have : BitVec.ofNat 32 r.val ≠ BitVec.ofNat 32 k := by
      intro he
      have := congrArg BitVec.toNat he
      simp only [BitVec.toNat_ofNat] at this
      have hr := r.isLt
      rw [Nat.mod_eq_of_lt (by omega), Nat.mod_eq_of_lt (by omega)] at this
      exact h this
    simp only [beq_false_of_ne this]
    rfl

/-- The loop's invariant. -/
structure Inv (k : ℕ) (a : Acc Ideal) : Prop where
  scores : Scores A k a.1
  column : ∀ (b : Fin 8) (r : Fin 20), r.val < k → Column A a b r

variable {A} {L : IVec S8x160x128 32} {mc : FVec Ideal S8 .f32} {x1 y1 x2 y2 ar : FVec Ideal S8x160x128 .f32}
  (hB : Bound A L mc x1 y1 x2 y2 ar)

include hB

theorem trip_inv {k : ℕ} (hk : k < 20) {a : Acc Ideal} (h : Inv A k a) :
    Inv A (k + 1) (trip L mc x1 y1 x2 y2 ar k0_pay34 (iota .tc S8x20 32 [1] iota_S8x20_d1_w32) k a) := by
  have hS := h.scores
  have hL : ∀ b, k0_pay23 L k0_pay34 a.1 (ix1 b) = lab A b (pick A b k) := fun b =>
    (pay23_at hS b L (by rw [hB.L]; exact toInt_lab A b _)).trans (hB.L b _)
  have h1 := scores_succ hB hS
  refine Inv.mk (by unfold trip; dsimp only; exact h1) fun b r hr => ?_
  by_cases hrk : r.val = k
  · have hw := col_word k hk r
    rw [if_pos hrk] at hw
    subst hrk
    constructor
    · unfold trip
      pointwise [k0_pay10, k0_pay9, k0_pay8]
      rw [hw, pay17_at hS]
      rfl
    · unfold trip
      pointwise [k0_pay11, k0_pay9, k0_pay8]
      rw [hw, hL]
      rfl
    · unfold trip
      pointwise [k0_pay12, k0_pay9, k0_pay8]
      rw [hw, hL, hB.mc, pay19_at hS, hB.x1]
      rfl
    · unfold trip
      pointwise [k0_pay13, k0_pay9, k0_pay8]
      rw [hw, hL, hB.mc, pay20_at hS, hB.y1]
      rfl
    · unfold trip
      pointwise [k0_pay14, k0_pay9, k0_pay8]
      rw [hw, hL, hB.mc, pay21_at hS, hB.x2]
      rfl
    · unfold trip
      pointwise [k0_pay15, k0_pay9, k0_pay8]
      rw [hw, hL, hB.mc, pay22_at hS, hB.y2]
      rfl
  · have hw := col_word k hk r
    rw [if_neg hrk] at hw
    have hc := h.column b r (by omega)
    constructor
    · unfold trip
      pointwise [k0_pay10, k0_pay9, k0_pay8]
      rw [hw, ← hc.score]
      rfl
    · unfold trip
      pointwise [k0_pay11, k0_pay9, k0_pay8]
      rw [hw, ← hc.label]
      rfl
    · unfold trip
      pointwise [k0_pay12, k0_pay9, k0_pay8]
      rw [hw, ← hc.x1]
      rfl
    · unfold trip
      pointwise [k0_pay13, k0_pay9, k0_pay8]
      rw [hw, ← hc.y1]
      rfl
    · unfold trip
      pointwise [k0_pay14, k0_pay9, k0_pay8]
      rw [hw, ← hc.x2]
      rfl
    · unfold trip
      pointwise [k0_pay15, k0_pay9, k0_pay8]
      rw [hw, ← hc.y2]
      rfl

theorem trips_inv {init : Acc Ideal} (h : Inv A 0 init) : ∀ k, k ≤ 20 →
    Inv A k (trips L mc x1 y1 x2 y2 ar k0_pay34 (iota .tc S8x20 32 [1] iota_S8x20_d1_w32) init k)
  | 0, _ => h
  | k + 1, hk => trip_inv hB (by omega) (trips_inv h k (by omega))

omit hB

/-! ## From the scratch buffers -/

/-- The scratch buffers hold every block of every image. -/
structure Full (A : Args) (g : Scr Ideal) : Prop where
  sc : ∀ (b : Fin 8) (j : Fin 20) (r : Fin 8) (l : Fin 128),
    g.1 (ix4 b j r l) = padded (score A b) (j.val * 1024 + r.val * 128 + l.val)
  lb : ∀ (b : Fin 8) (j : Fin 20) (r : Fin 8) (l : Fin 128),
    g.2.1 (ix4 b j r l) = padLab A b (j.val * 1024 + r.val * 128 + l.val)
  co : ∀ (b : Fin 8) (q : Fin 4) (j : Fin 20) (r : Fin 8) (l : Fin 128),
    g.2.2.1 (ix5 b q j r l) = padCoord A b q (j.val * 1024 + r.val * 128 + l.val)
  mx : ∀ (b : Fin 8) (q : Fin 4) (l : Fin 1024), g.2.2.2 (ix3 b q l) = runMax A b q l.val 19

section

variable {g : Scr Ideal} (hg : Full A g)

include hg

theorem pay26_at (b : Fin 8) (n : Fin 20000) : k0_pay26 g.2.1 (ix3 b (place n).1 (place n).2) = lab A b n := by
  pointwise [k0_pay26]
  rw [hg.lb]
  simp only [place]
  rw [padLab, dif_pos (by omega)]
  congr 1
  apply Fin.ext
  simp only
  omega

theorem pay27_at (b : Fin 8) : k0_pay27 g.2.2.2 (ix1 b) = extent A b := by
  pointwise [k0_pay27]
  rw [ofBits_neg_inf, ← fold_runMax]
  congr 1
  refine congrArg (fun f => Finset.univ.fold max ⊥ f) (funext fun x => ?_)
  exact hg.mx b x.1 x.2

theorem pay29_at (b : Fin 8) (n : Fin 20000) :
    k0_pay29 g.2.1 g.2.2.1 g.2.2.2 (ix3 b (place n).1 (place n).2) = moved A b 0 n := by
  have h26 := pay26_at hg b n
  pointwise [k0_pay26] at h26
  pointwise [k0_pay29, k0_pay28, k0_pay26]
  rw [h26, pay27_at hg, hg.co]
  simp only [place]
  rw [padCoord, dif_pos (by omega), moved]
  congr 2
  apply Fin.ext
  simp only
  omega

theorem pay30_at (b : Fin 8) (n : Fin 20000) :
    k0_pay30 g.2.1 g.2.2.1 g.2.2.2 (ix3 b (place n).1 (place n).2) = moved A b 1 n := by
  have h26 := pay26_at hg b n
  pointwise [k0_pay26] at h26
  pointwise [k0_pay30, k0_pay28, k0_pay26]
  rw [h26, pay27_at hg, hg.co]
  simp only [place]
  rw [padCoord, dif_pos (by omega), moved]
  congr 2
  apply Fin.ext
  simp only
  omega

theorem pay31_at (b : Fin 8) (n : Fin 20000) :
    k0_pay31 g.2.1 g.2.2.1 g.2.2.2 (ix3 b (place n).1 (place n).2) = moved A b 2 n := by
  have h26 := pay26_at hg b n
  pointwise [k0_pay26] at h26
  pointwise [k0_pay31, k0_pay28, k0_pay26]
  rw [h26, pay27_at hg, hg.co]
  simp only [place]
  rw [padCoord, dif_pos (by omega), moved]
  congr 2
  apply Fin.ext
  simp only
  omega

theorem pay32_at (b : Fin 8) (n : Fin 20000) :
    k0_pay32 g.2.1 g.2.2.1 g.2.2.2 (ix3 b (place n).1 (place n).2) = moved A b 3 n := by
  have h26 := pay26_at hg b n
  pointwise [k0_pay26] at h26
  pointwise [k0_pay32, k0_pay28, k0_pay26]
  rw [h26, pay27_at hg, hg.co]
  simp only [place]
  rw [padCoord, dif_pos (by omega), moved]
  congr 2
  apply Fin.ext
  simp only
  omega

theorem pay33_at (b : Fin 8) (n : Fin 20000) :
    k0_pay33 g.2.1 g.2.2.1 g.2.2.2 (ix3 b (place n).1 (place n).2) = area A b n := by
  pointwise [k0_pay33]
  rw [pay29_at hg, pay30_at hg, pay31_at hg, pay32_at hg]
  rfl

theorem bound : Bound A (k0_pay26 g.2.1) (k0_pay27 g.2.2.2) (k0_pay29 g.2.1 g.2.2.1 g.2.2.2) (k0_pay30 g.2.1 g.2.2.1 g.2.2.2)
    (k0_pay31 g.2.1 g.2.2.1 g.2.2.2) (k0_pay32 g.2.1 g.2.2.1 g.2.2.2) (k0_pay33 g.2.1 g.2.2.1 g.2.2.2) :=
  ⟨pay26_at hg, pay27_at hg, pay29_at hg, pay30_at hg, pay31_at hg, pay32_at hg, pay33_at hg⟩

theorem pay25_at : Scores A 0 (k0_pay25 g.1) := by
  intro b x
  pointwise [k0_pay25]
  rw [hg.sc]
  refine congrArg (padded (score A b)) ?_
  simp only [num]
  omega

/-- What the loop leaves: every column holds its taken box. -/
theorem selected_inv : Inv A 20 (selected g) :=
  trips_inv (bound hg) ⟨pay25_at hg, fun _ _ h => absurd h (Nat.not_lt_zero _)⟩ 20 le_rfl

end

/-! ## The three results -/

/-- The labels, -/
def outLabels (A : Args) : IVec S8x20 32 := fun i => lab A (i 0) (pick A (i 0) (i 1).val)

/-- the boxes, -/
def outBoxes (A : Args) : FVec Ideal S8x20x4 .f32 := fun i => coord A (i 0) (i 2) (pick A (i 0) (i 1).val)

/-- and the scores. -/
def outScores (A : Args) : FVec Ideal S8x20 .f32 := fun i => scoreAt A (i 0) (i 1).val (pick A (i 0) (i 1).val)

/-- Where the extent is a number, shifting back gives the coordinate. -/
theorem moved_sub (b : Fin 8) (he : ∃ r : ℝ, extent A b = r) (q : Fin 4) (n : Fin 20000) :
    moved A b q n - shift A b n = coord A b q n := by
  obtain ⟨r, hr⟩ := he
  unfold moved shift
  rw [hr, ← EReal.coe_mul, EReal.add_sub_cancel_right]

section

variable {g : Scr Ideal} (hg : Full A g)

include hg

theorem labels_out : (selected g).2.2.1 = outLabels A := by
  funext i
  idx_vars i
  exact ((selected_inv hg).column _ _ (Fin.isLt _)).label

theorem scores_out : (selected g).2.1 = outScores A := by
  funext i
  idx_vars i
  exact ((selected_inv hg).column _ _ (Fin.isLt _)).score

theorem boxes_out (he : ∀ b, ∃ r : ℝ, extent A b = r) : k0_pay16 (selected g).2.2.2.1 (selected g).2.2.2.2.1
    (selected g).2.2.2.2.2.1 (selected g).2.2.2.2.2.2 = outBoxes A := by
  funext i
  idx_vars i
  have hc := (selected_inv hg).column i0 i1 (Fin.isLt _)
  pointwise [k0_pay16]
  rw [hc.x1, hc.x2, hc.y1, hc.y2]
  simp only [moved_sub i0 (he i0)]
  fin_cases i2 <;> rfl

end

end Cert.Proof.KernelIdeal
end
-- ==== Proof.Progress.lean ====
/-
  How the scratch buffers fill: after so many grid points they hold the blocks of those points, and the extent scratch
  the magnitudes so far; a grid point's stores take one step, and the last point finds every block in place.
-/
module

public import proofs.«01_k».proof.Proof.Block
public import proofs.«01_k».proof.Proof.TripLoop
public import Idealize.ShloMosaic.Lib.VecWindow

@[expose] public section

noncomputable section

namespace Cert.Proof.KernelIdeal

open Cert.KernelIdeal Cert.KernelIdeal.Gen Cert.Proof.Nms
open Idealize.ShloMosaic

set_option maxRecDepth 16384

section

variable {α : Type}

/-- A block of the score or label scratch, put in place. -/
theorem put_block (x : S8x20x8x128.Idx → α) (b b' : Fin 8) (j j' : Fin 20) (r : Fin 8) (l : Fin 128)
    (w : ((a : Fin S8x20x8x128.rank) → Fin (S1x1x8x128.size a)) → α) :
    VecWindow.put x ![b.val, j.val, 0, 0] S1x1x8x128.size w (ix4 b' j' r l)
      = if b' = b ∧ j' = j then w (ix4 (0 : Fin 1) (0 : Fin 1) r l) else x (ix4 b' j' r l) := by
  unfold VecWindow.put
  by_cases h : b' = b ∧ j' = j
  · rw [if_pos h]
    obtain ⟨rfl, rfl⟩ := h
    rw [dif_pos]
    · refine congrArg w (funext fun a => Fin.ext ?_)
      fin_cases a <;> simp [Rect.unitLocal]
    · intro a
      fin_cases a <;> simp
  · rw [if_neg h, dif_neg]
    intro h'
    apply h
    have h0 := h' 0
    have h1 := h' 1
    simp at h0 h1
    exact ⟨Fin.ext (by omega), Fin.ext (by omega)⟩

/-- A block of the coordinate scratch, put in place. -/
theorem put_coords (x : S8x4x20x8x128.Idx → α) (b b' : Fin 8) (q : Fin 4) (j j' : Fin 20) (r : Fin 8) (l : Fin 128)
    (w : ((a : Fin S8x4x20x8x128.rank) → Fin (S1x4x1x8x128.size a)) → α) :
    VecWindow.put x ![b.val, 0, j.val, 0, 0] S1x4x1x8x128.size w (ix5 b' q j' r l)
      = if b' = b ∧ j' = j then w (ix5 (0 : Fin 1) q (0 : Fin 1) r l) else x (ix5 b' q j' r l) := by
  unfold VecWindow.put
  by_cases h : b' = b ∧ j' = j
  · rw [if_pos h]
    obtain ⟨rfl, rfl⟩ := h
    rw [dif_pos]
    · refine congrArg w (funext fun a => Fin.ext ?_)
      fin_cases a <;> simp [Rect.unitLocal]
    · intro a
      fin_cases a <;> simp
  · rw [if_neg h, dif_neg]
    intro h'
    apply h
    have h0 := h' 0
    have h1 := h' 2
    simp at h0 h1
    exact ⟨Fin.ext (by omega), Fin.ext (by omega)⟩

/-- An image's row of the extent scratch, put in place. -/
theorem put_extent (x : S8x4x1024.Idx → α) (b b' : Fin 8) (q : Fin 4) (l : Fin 1024)
    (w : ((a : Fin S8x4x1024.rank) → Fin (S1x4x1024.size a)) → α) :
    VecWindow.put x ![b.val, 0, 0] S1x4x1024.size w (ix3 b' q l)
      = if b' = b then w (ix3 (0 : Fin 1) q l) else x (ix3 b' q l) := by
  unfold VecWindow.put
  by_cases h : b' = b
  · rw [if_pos h]
    subst h
    rw [dif_pos]
    · refine congrArg w (funext fun a => Fin.ext ?_)
      fin_cases a <;> simp [Rect.unitLocal]
    · intro a
      fin_cases a <;> simp
  · rw [if_neg h, dif_neg]
    intro h'
    apply h
    have h0 := h' 0
    simp at h0
    exact Fin.ext (by omega)

/-- An image's row of the extent scratch, read. -/
theorem window_extent (x : S8x4x1024.Idx → α) (b : Fin 8) (q : Fin 4) (l : Fin 1024) (inb) :
    VecWindow.window x ![b.val, 0, 0] S1x4x1024.size inb (ix3 (0 : Fin 1) q l) = x (ix3 b q l) := by
  unfold VecWindow.window
  refine congrArg x (funext fun a => Fin.ext ?_)
  fin_cases a <;> simp [Rect.emb, Rect.unit]

end

/-- The scratch buffers after the first `T` grid points. -/
structure Progress (A : Args) (T : ℕ) (g : Scr Ideal) : Prop where
  sc : ∀ (b : Fin 8) (j : Fin 20) (r : Fin 8) (l : Fin 128), b.val * 20 + j.val < T →
    g.1 (ix4 b j r l) = padded (score A b) (j.val * 1024 + r.val * 128 + l.val)
  lb : ∀ (b : Fin 8) (j : Fin 20) (r : Fin 8) (l : Fin 128), b.val * 20 + j.val < T →
    g.2.1 (ix4 b j r l) = padLab A b (j.val * 1024 + r.val * 128 + l.val)
  co : ∀ (b : Fin 8) (q : Fin 4) (j : Fin 20) (r : Fin 8) (l : Fin 128), b.val * 20 + j.val < T →
    g.2.2.1 (ix5 b q j r l) = padCoord A b q (j.val * 1024 + r.val * 128 + l.val)
  mx : ∀ (b : Fin 8) (q : Fin 4) (l : Fin 1024), b.val * 20 < T →
    g.2.2.2 (ix3 b q l) = runMax A b q l.val (min 19 (T - 1 - b.val * 20))

theorem Progress.zero (A : Args) (g : Scr Ideal) : Progress A 0 g :=
  ⟨fun _ _ _ _ h => absurd h (Nat.not_lt_zero _), fun _ _ _ _ h => absurd h (Nat.not_lt_zero _),
    fun _ _ _ _ _ h => absurd h (Nat.not_lt_zero _), fun _ _ _ h => absurd h (Nat.not_lt_zero _)⟩

/-- After every grid point the scratch buffers hold every block. -/
theorem Progress.full {A : Args} {g : Scr Ideal} (h : Progress A 160 g) : Full A g :=
  ⟨fun b j r l => h.sc b j r l (by omega), fun b j r l => h.lb b j r l (by omega),
    fun b q j r l => h.co b q j r l (by omega), fun b q l => by
      rw [h.mx b q l (by omega), show min 19 (160 - 1 - b.val * 20) = 19 by omega]⟩

/-- The stores of a grid point. -/
theorem Progress.step {A : Args} {g : Scr Ideal} {b : Fin 8} {j : Fin 20} (h : Progress A (b.val * 20 + j.val) g)
    (W6 : ((a : Fin S8x20x8x128.rank) → Fin (S1x1x8x128.size a)) → EReal)
    (W7 : ((a : Fin S8x20x8x128.rank) → Fin (S1x1x8x128.size a)) → BitVec 32)
    (W8 : ((a : Fin S8x4x20x8x128.rank) → Fin (S1x4x1x8x128.size a)) → EReal)
    (W9 : ((a : Fin S8x4x1024.rank) → Fin (S1x4x1024.size a)) → EReal)
    (h6 : ∀ (r : Fin 8) (l : Fin 128), W6 (ix4 (0 : Fin 1) (0 : Fin 1) r l) = padded (score A b) (j.val * 1024 + r.val * 128 + l.val))
    (h7 : ∀ (r : Fin 8) (l : Fin 128), W7 (ix4 (0 : Fin 1) (0 : Fin 1) r l) = padLab A b (j.val * 1024 + r.val * 128 + l.val))
    (h8 : ∀ (q : Fin 4) (r : Fin 8) (l : Fin 128), W8 (ix5 (0 : Fin 1) q (0 : Fin 1) r l) = padCoord A b q (j.val * 1024 + r.val * 128 + l.val))
    (h9 : ∀ (q : Fin 4) (l : Fin 1024), W9 (ix3 (0 : Fin 1) q l) = runMax A b q l.val j.val) :
    Progress A (b.val * 20 + j.val + 1)
      (VecWindow.put g.1 ![b.val, j.val, 0, 0] S1x1x8x128.size W6, VecWindow.put g.2.1 ![b.val, j.val, 0, 0] S1x1x8x128.size W7,
        VecWindow.put g.2.2.1 ![b.val, 0, j.val, 0, 0] S1x4x1x8x128.size W8, VecWindow.put g.2.2.2 ![b.val, 0, 0] S1x4x1024.size W9) := by
  have key : ∀ (b' : Fin 8) (j' : Fin 20), ¬ (b' = b ∧ j' = j) → b'.val * 20 + j'.val < b.val * 20 + j.val + 1 →
      b'.val * 20 + j'.val < b.val * 20 + j.val := by
    intro b' j' hn hl
    by_contra hge
    apply hn
    exact ⟨Fin.ext (by omega), Fin.ext (by omega)⟩
  constructor
  · intro b' j' r l hl
    refine (put_block _ _ _ _ _ _ _ _).trans ?_
    split
    · rename_i he
      rw [he.1, he.2, h6]
    · rename_i he
      exact h.sc b' j' r l (key b' j' he hl)
  · intro b' j' r l hl
    refine (put_block _ _ _ _ _ _ _ _).trans ?_
    split
    · rename_i he
      rw [he.1, he.2, h7]
    · rename_i he
      exact h.lb b' j' r l (key b' j' he hl)
  · intro b' q j' r l hl
    refine (put_coords _ _ _ _ _ _ _ _ _).trans ?_
    split
    · rename_i he
      rw [he.1, he.2, h8]
    · rename_i he
      exact h.co b' q j' r l (key b' j' he hl)
  · intro b' q l hl
    refine (put_extent _ _ _ _ _ _).trans ?_
    split
    · rename_i he
      rw [he, h9]
      congr 1
      omega
    · rename_i he
      have hb : b'.val < b.val := by
        have : b'.val ≠ b.val := fun h => he (Fin.ext h)
        omega
      rw [h.mx b' q l (by omega)]
      congr 1
      omega

end Cert.Proof.KernelIdeal
end
-- ==== Proof.PointStep.lean ====
/-
  One grid point's stores, over any staging and scratch buffers: the scratch buffers' contents take one step.
-/
module

public import proofs.«01_k».proof.Proof.Progress
public import proofs.«01_k».proof.Proof.KernelIdealFrame

@[expose] public section

noncomputable section

namespace Cert.Proof.KernelIdeal

open Cert.KernelIdeal Cert.KernelIdeal.Gen Cert.Proof.Nms
open Idealize.ShloMosaic Idealize.ShloMosaic.TcCoe

set_option maxRecDepth 16384

variable (c : Dev nD) (i : grid0.Coords)
  (M0 : Memref sig .tc .smem S8x2 .i32) (M1 : Memref sig .tc .vmem S1x1024x80 .f32) (M2 : Memref sig .tc .vmem S1x4x1024 .f32)
  (M6 : Memref sig .tc .vmem S8x20x8x128 .f32) (M7 : Memref sig .tc .vmem S8x20x8x128 .i32)
  (M8 : Memref sig .tc .vmem S8x4x20x8x128 .f32) (M9 : Memref sig .tc .vmem S8x4x1024 .f32)
  (f0 : Bf Ideal c M0) (f1 : Bf Ideal c M1) (f2 : Bf Ideal c M2)
  (f6 : Bf Ideal c M6) (f7 : Bf Ideal c M7) (f8 : Bf Ideal c M8) (f9 : Bf Ideal c M9)

variable {A : Args} {b : Fin 8} {j : Fin 20} (hb : (i 0).val = b.val) (hj : (i 1).val = j.val)
  (hS : ∀ b q, M0.view.read (Elt Ideal) f0 (ix2 b q) = A.sz b q)
  (hL : Logits A b j (M1.view.read (Elt Ideal) f1)) (hB : Boxes A b j (M2.view.read (Elt Ideal) f2))
  (hP : Progress A (b.val * 20 + j.val) (M6.view.read (Elt Ideal) f6, M7.view.read (Elt Ideal) f7, M8.view.read (Elt Ideal) f8, M9.view.read (Elt Ideal) f9))

include hb hj hS hL hB hP

theorem step_first (hc : k0_cond1 i = 1#1) :
    Progress A (b.val * 20 + j.val + 1) (M6.view.read (Elt Ideal) (w6 c i M1 M6 f1 f6), M7.view.read (Elt Ideal) (w7 c i M1 M7 f1 f7),
      M8.view.read (Elt Ideal) (w8 c i M0 M2 M8 f0 f2 f8), M9.view.read (Elt Ideal) (w9a c i M0 M2 M9 f0 f2 f9 hc)) := by
  have hj0 : j.val = 0 := by rw [← hj]; exact (cond1_iff i).mp hc
  have o1 : k0_off1 i = ![b.val, j.val, 0, 0] := by rw [k0_off1_eq, hb, hj]
  have o4 : k0_off4 i = ![b.val, 0, j.val, 0, 0] := by rw [k0_off4_eq, hb, hj]
  have o5 : k0_off5 i = ![b.val, 0, 0] := by rw [k0_off5_eq, hb]
  unfold w6 w7 w8 w9a
  rw [View.read_writes_cons_put _ _ _ _ _ o1, View.read_writes_cons_put _ _ _ _ _ o1, View.read_writes_cons_put _ _ _ _ _ o4, View.read_writes_cons_put _ _ _ _ _ o5]
  simp only [View.writes_nil]
  refine hP.step _ _ _ _ (fun r l => pay39_at i hj hL r l) (fun r l => pay40_at i hj hL r l) (fun q r l => pay2_at i hj hB hb hS q r l) (fun q l => ?_)
  refine (pay4_at i hj hB hb hS q l).trans ?_
  rw [hj0, runMax, Nat.zero_mul, Nat.zero_add]

theorem step_later (hc : k0_cond2 i = 1#1) :
    Progress A (b.val * 20 + j.val + 1) (M6.view.read (Elt Ideal) (w6 c i M1 M6 f1 f6), M7.view.read (Elt Ideal) (w7 c i M1 M7 f1 f7),
      M8.view.read (Elt Ideal) (w8 c i M0 M2 M8 f0 f2 f8), M9.view.read (Elt Ideal) (w9b c i M0 M2 M9 f0 f2 f9 hc)) := by
  have hj0 : j.val ≠ 0 := by rw [← hj]; exact (cond2_iff i).mp hc
  obtain ⟨k, hk⟩ : ∃ k, j.val = k + 1 := ⟨j.val - 1, by omega⟩
  have o1 : k0_off1 i = ![b.val, j.val, 0, 0] := by rw [k0_off1_eq, hb, hj]
  have o4 : k0_off4 i = ![b.val, 0, j.val, 0, 0] := by rw [k0_off4_eq, hb, hj]
  have o6 : k0_off6 i = ![b.val, 0, 0] := by rw [k0_off6_eq, hb]
  have inb : ∀ a, (![b.val, 0, 0] : Fin 3 → ℕ) a + S1x4x1024.size a ≤ S8x4x1024.size a := by
    intro a
    fin_cases a <;> simp
  unfold w6 w7 w8 w9b
  rw [View.read_writes_cons_put _ _ _ _ _ o1, View.read_writes_cons_put _ _ _ _ _ o1, View.read_writes_cons_put _ _ _ _ _ o4, View.read_writes_cons_put _ _ _ _ _ o6]
  simp only [View.writes_nil]
  refine hP.step _ _ _ _ (fun r l => pay39_at i hj hL r l) (fun r l => pay40_at i hj hL r l) (fun q r l => pay2_at i hj hB hb hS q r l) (fun q l => ?_)
  refine (pay5_at i hj hB hb hS _ q l).trans ?_
  rw [View.readAt_unit _ _ _ o6 inb]
  have h9 := hP.mx b q l (by omega)
  refine (congrArg (fun x => max x _) ((window_extent _ b q l inb).trans h9)).trans ?_
  rw [show min 19 (b.val * 20 + j.val - 1 - b.val * 20) = k by omega, hk, runMax]

end Cert.Proof.KernelIdeal
end
-- ==== Proof.PointRun.lean ====
/-
  One grid point's body with what it leaves said: the scratch buffers one step further, and at the last point the three
  results in their staging buffers.
-/
module

public import proofs.«01_k».proof.Proof.PointStep

@[expose] public section

noncomputable section

namespace Cert.Proof.KernelIdeal

open Cert.KernelIdeal Cert.KernelIdeal.Gen Cert.Proof.Nms

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

set_option maxRecDepth 16384

local notation "𝕄" => MT nD τ sig Unit (Elt Ideal) ℕ (UR sig nD τ) ℕ

variable (c : Dev nD) (i : grid0.Coords)
  (M0 : Memref sig .tc .smem S8x2 .i32) (h0 : M0.IsWhole)
  (M1 : Memref sig .tc .vmem S1x1024x80 .f32) (h1 : M1.IsWhole)
  (M2 : Memref sig .tc .vmem S1x4x1024 .f32) (h2 : M2.IsWhole)
  (M3 : Memref sig .tc .vmem S8x20 .i32) (h3 : M3.IsWhole)
  (M4 : Memref sig .tc .vmem S8x20x4 .f32) (h4 : M4.IsWhole)
  (M5 : Memref sig .tc .vmem S8x20 .f32) (h5 : M5.IsWhole)
  (M6 : Memref sig .tc .vmem S8x20x8x128 .f32) (h6 : M6.IsWhole)
  (M7 : Memref sig .tc .vmem S8x20x8x128 .i32) (h7 : M7.IsWhole)
  (M8 : Memref sig .tc .vmem S8x4x20x8x128 .f32) (h8 : M8.IsWhole)
  (M9 : Memref sig .tc .vmem S8x4x1024 .f32) (h9 : M9.IsWhole)
  (f0 : Bf Ideal c M0) (f1 : Bf Ideal c M1) (f2 : Bf Ideal c M2) (f3 : Bf Ideal c M3) (f4 : Bf Ideal c M4) (f5 : Bf Ideal c M5)
  (f6 : Bf Ideal c M6) (f7 : Bf Ideal c M7) (f8 : Bf Ideal c M8) (f9 : Bf Ideal c M9)

variable {A : Args} {b : Fin 8} {j : Fin 20} (hb : (i 0).val = b.val) (hj : (i 1).val = j.val)
  (hS : ∀ b q, M0.view.read (Elt Ideal) f0 (ix2 b q) = A.sz b q)
  (hL : Logits A b j (M1.view.read (Elt Ideal) f1)) (hB : Boxes A b j (M2.view.read (Elt Ideal) f2))
  (hP : Progress A (b.val * 20 + j.val) (M6.view.read (Elt Ideal) f6, M7.view.read (Elt Ideal) f7, M8.view.read (Elt Ideal) f8, M9.view.read (Elt Ideal) f9))

/-- The four scratch buffers after the first `T` points. -/
abbrev scratch (A : Args) (T : ℕ) : sProp 𝕄 :=
  iprop(∃ g6 g7 g8 g9, ⌜Progress A T (M6.view.read (Elt Ideal) g6, M7.view.read (Elt Ideal) g7, M8.view.read (Elt Ideal) g8, M9.view.read (Elt Ideal) g9)⌝
    ∗ pt c M6 g6 ∗ pt c M7 g7 ∗ pt c M8 g8 ∗ pt c M9 g9)

include hb hj hS hL hB hP

/-- A point that is not the last. -/
theorem point_run (hc3 : ¬ k0_cond3 i = 1#1) (Q : PUnit → sProp 𝕄) :
    iprop(pt c M0 f0 ∗ pt c M1 f1 ∗ pt c M2 f2 ∗ pt c M6 f6 ∗ pt c M7 f7 ∗ pt c M8 f8 ∗ pt c M9 f9
      ∗ (iprop(pt c M0 f0 ∗ pt c M1 f1 ∗ pt c M2 f2 ∗ scratch c M6 M7 M8 M9 A (b.val * 20 + j.val + 1)) -∗ Q ⟨⟩))
    ⊢ wp frame (wpE (defs₀ (F := Ideal)) Variants.none c none) Set.univ
        (cc0__nms_kernel i M0 h0 M1 h1 M2 h2 M3 h3 M4 h4 M5 h5 M6 h6 M7 h7 M8 h8 M9 h9) Q := by
  iintro ⟨H0, H1, H2, H6, H7, H8, H9, Hk⟩
  by_cases hc1 : k0_cond1 i = 1#1
  · have hj0 := (cond1_iff i).mp hc1
    iapply (run_first c i M0 h0 M1 h1 M2 h2 M3 h3 M4 h4 M5 h5 M6 h6 M7 h7 M8 h8 M9 h9 f0 f1 f2 f6 f7 f8 f9 hc1
      (fun h => (cond2_iff i).mp h hj0) hc3 Q)
    isplitl [H0]; · iexact H0
    isplitl [H1]; · iexact H1
    isplitl [H2]; · iexact H2
    isplitl [H6]; · iexact H6
    isplitl [H7]; · iexact H7
    isplitl [H8]; · iexact H8
    isplitl [H9]; · iexact H9
    iintro ⟨H0, H1, H2, H6, H7, H8, H9⟩
    iapply Hk
    isplitl [H0]; · iexact H0
    isplitl [H1]; · iexact H1
    isplitl [H2]; · iexact H2
    iexists _; iexists _; iexists _; iexists _
    isplitr
    · ipureintro
      exact step_first c i M0 M1 M2 M6 M7 M8 M9 f0 f1 f2 f6 f7 f8 f9 hb hj hS hL hB hP hc1
    isplitl [H6]; · iexact H6
    isplitl [H7]; · iexact H7
    isplitl [H8]; · iexact H8
    iexact H9
  · have hc2 : k0_cond2 i = 1#1 := (cond2_iff i).mpr fun h => hc1 ((cond1_iff i).mpr h)
    iapply (run_mid c i M0 h0 M1 h1 M2 h2 M3 h3 M4 h4 M5 h5 M6 h6 M7 h7 M8 h8 M9 h9 f0 f1 f2 f6 f7 f8 f9 hc1 hc2 hc3 Q)
    isplitl [H0]; · iexact H0
    isplitl [H1]; · iexact H1
    isplitl [H2]; · iexact H2
    isplitl [H6]; · iexact H6
    isplitl [H7]; · iexact H7
    isplitl [H8]; · iexact H8
    isplitl [H9]; · iexact H9
    iintro ⟨H0, H1, H2, H6, H7, H8, H9⟩
    iapply Hk
    isplitl [H0]; · iexact H0
    isplitl [H1]; · iexact H1
    isplitl [H2]; · iexact H2
    iexists _; iexists _; iexists _; iexists _
    isplitr
    · ipureintro
      exact step_later c i M0 M1 M2 M6 M7 M8 M9 f0 f1 f2 f6 f7 f8 f9 hb hj hS hL hB hP hc2
    isplitl [H6]; · iexact H6
    isplitl [H7]; · iexact H7
    isplitl [H8]; · iexact H8
    iexact H9

/-- The last point. -/
theorem point_last (he : ∀ b, ∃ r : ℝ, extent A b = r) (hc3 : k0_cond3 i = 1#1) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
      ∗ (iprop(pt c M0 f0 ∗ pt c M1 f1 ∗ pt c M2 f2 ∗ (∃ g, pt c M3 g ∗ ⌜M3.view.read (Elt Ideal) g = outLabels A⌝)
          ∗ (∃ g, pt c M4 g ∗ ⌜M4.view.read (Elt Ideal) g = outBoxes A⌝) ∗ (∃ g, pt c M5 g ∗ ⌜M5.view.read (Elt Ideal) g = outScores A⌝)
          ∗ scratch c M6 M7 M8 M9 A (b.val * 20 + j.val + 1)) -∗ Q ⟨⟩))
    ⊢ wp frame (wpE (defs₀ (F := Ideal)) Variants.none c none) Set.univ
        (cc0__nms_kernel i M0 h0 M1 h1 M2 h2 M3 h3 M4 h4 M5 h5 M6 h6 M7 h7 M8 h8 M9 h9) Q := by
  have hc := (cond3_iff i).mp hc3
  have hc1 : ¬ k0_cond1 i = 1#1 := fun h => by have := (cond1_iff i).mp h; omega
  have hc2 : k0_cond2 i = 1#1 := (cond2_iff i).mpr (by omega)
  have hst := step_later c i M0 M1 M2 M6 M7 M8 M9 f0 f1 f2 f6 f7 f8 f9 hb hj hS hL hB hP hc2
  have hg := Progress.full (A := A) ((show b.val * 20 + j.val + 1 = 160 by omega) ▸ hst)
  iintro ⟨H0, H1, H2, H3, H4, H5, H6, H7, H8, H9, Hk⟩
  iapply (run_last c i M0 h0 M1 h1 M2 h2 M3 h3 M4 h4 M5 h5 M6 h6 M7 h7 M8 h8 M9 h9 f0 f1 f2 f3 f4 f5 f6 f7 f8 f9 hc1 hc2 hc3 Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, ⟨%g3, H3, %e3⟩, ⟨%g4, H4, %e4⟩, ⟨%g5, H5, %e5⟩, H6, H7, H8, H9⟩
  iapply Hk
  isplitl [H0]; · iexact H0
  isplitl [H1]; · iexact H1
  isplitl [H2]; · iexact H2
  isplitl [H3]
  · iexists g3
    isplitl [H3]; · iexact H3
    ipureintro; exact e3.trans (labels_out hg)
  isplitl [H4]
  · iexists g4
    isplitl [H4]; · iexact H4
    ipureintro; exact e4.trans (boxes_out hg he)
  isplitl [H5]
  · iexists g5
    isplitl [H5]; · iexact H5
    ipureintro; exact e5.trans (scores_out hg)
  iexists _; iexists _; iexists _; iexists _
  isplitr
  · ipureintro
    exact hst
  isplitl [H6]; · iexact H6
  isplitl [H7]; · iexact H7
  isplitl [H8]; · iexact H8
  iexact H9

end Cert.Proof.KernelIdeal
end
-- ==== Proof.Staged.lean ====
/-
  What the staging buffers hold at a grid point: the block of logits and of boxes on what lies in the arrays, the sizes
  whole; each as the launch's arguments have it.
-/
module

public import proofs.«01_k».proof.Proof.Block
public import proofs.«01_k».proof.Proof.Gen.KernelIdeal.Frame

@[expose] public section

noncomputable section

namespace Cert.Proof.KernelIdeal

open Cert.KernelIdeal Cert.KernelIdeal.Gen Cert.Proof.Nms
open Idealize.ShloMosaic Idealize.ShloMosaic.TcCoe

set_option maxRecDepth 16384

variable (m : (ℓ : Loc nD τ sig) → Buf (Elt Ideal) ℓ) (c : Dev nD)

/-- The launch's arguments on a core. -/
def argsOf : Args where
  lg b n q := m ((c : Thread nD τ).loc main_arg0) (ix3 b n q)
  bx b n q := m ((c : Thread nD τ).loc main_arg1) (ix3 b n q)
  sz b q := m ((c : Thread nD τ).loc main_arg2) (ix2 b q)

/-- The boxes as the region finds them: transposed. -/
theorem boxes_at (b : Fin 8) (q : Fin 4) (n : Fin 20000) :
    V m c main_v0 (ix3 b q n) = m ((c : Thread nD τ).loc main_arg1) (ix3 b n q) := by
  have h : V m c main_v0 = transpose S8x4x20000 [0, 2, 1] (m ((c : Thread nD τ).loc main_arg1)) transposes_S8x20000x4_S8x4x20000_0_2_1 := by
    unfold V
    rfl
  rw [h]
  pointwise

theorem extent_eq (x k d : ℕ) (i n : ℕ) (hn : n < k) (h : i * k + n < d) (hx : x = i) :
    n < (Pipeline.Clip.of x k d).extent k := by
  subst hx
  unfold Pipeline.Clip.of
  split_ifs with hc
  · exact hn
  · show n < d - x * k
    omega

theorem logits_staged (t : Fin cfg0.N) (b : Fin 8) (j : Fin 20) (hb : (grid0.coords t 0).val = b.val) (hj : (grid0.coords t 1).val = j.val)
    (d : Vec Ideal S1x1024x80 .f32) : Logits (argsOf m c) b j (win0_1.fill (grid0.coords t) d (iblk m c 1 t)) := by
  intro n h q
  have h0 : cc0_transform_1 (grid0.coords t) 0 = b.val := by
    show (BitVec.ofNat 32 (grid0.coords t 0).val).toNat = _
    rw [BitVec.toNat_ofNat, hb, Nat.mod_eq_of_lt (by omega)]
  have h1 : cc0_transform_1 (grid0.coords t) 1 = j.val := by
    show (BitVec.ofNat 32 (grid0.coords t 1).val).toNat = _
    rw [BitVec.toNat_ofNat, hj, Nat.mod_eq_of_lt (by omega)]
  have h2 : cc0_transform_1 (grid0.coords t) 2 = 0 := rfl
  have hm : win0_1.moved (grid0.coords t) (ix3 0 n q) = true := by
    rw [Pipeline.Window.moved_iff]
    intro a
    fin_cases a
    · exact extent_eq _ 1 8 b.val 0 (by omega) (by omega) h0
    · exact extent_eq _ 1024 20000 j.val n.val n.isLt (by omega) h1
    · exact extent_eq _ 80 80 0 q.val q.isLt (by omega) h2
  unfold Pipeline.Window.fill
  rw [dif_pos hm]
  show V m c main_arg0 _ = m ((c : Thread nD τ).loc main_arg0) _
  rw [V_main_arg0]
  congr 1
  funext a
  fin_cases a
  · apply Fin.ext
    show cc0_transform_1 (grid0.coords t) 0 * 1 + 1 * 0 = b.val
    omega
  · apply Fin.ext
    show cc0_transform_1 (grid0.coords t) 1 * 1024 + 1 * n.val = j.val * 1024 + n.val
    omega
  · apply Fin.ext
    show cc0_transform_1 (grid0.coords t) 2 * 80 + 1 * q.val = q.val
    omega

theorem boxes_staged (t : Fin cfg0.N) (b : Fin 8) (j : Fin 20) (hb : (grid0.coords t 0).val = b.val) (hj : (grid0.coords t 1).val = j.val)
    (d : Vec Ideal S1x4x1024 .f32) : Boxes (argsOf m c) b j (win0_2.fill (grid0.coords t) d (iblk m c 2 t)) := by
  intro n h q
  have h0 : cc0_transform_2 (grid0.coords t) 0 = b.val := by
    show (BitVec.ofNat 32 (grid0.coords t 0).val).toNat = _
    rw [BitVec.toNat_ofNat, hb, Nat.mod_eq_of_lt (by omega)]
  have h1 : cc0_transform_2 (grid0.coords t) 2 = j.val := by
    show (BitVec.ofNat 32 (grid0.coords t 1).val).toNat = _
    rw [BitVec.toNat_ofNat, hj, Nat.mod_eq_of_lt (by omega)]
  have h2 : cc0_transform_2 (grid0.coords t) 1 = 0 := rfl
  have hm : win0_2.moved (grid0.coords t) (ix3 0 q n) = true := by
    rw [Pipeline.Window.moved_iff]
    intro a
    fin_cases a
    · exact extent_eq _ 1 8 b.val 0 (by omega) (by omega) h0
    · exact extent_eq _ 4 4 0 q.val q.isLt (by omega) h2
    · exact extent_eq _ 1024 20000 j.val n.val n.isLt (by omega) h1
  unfold Pipeline.Window.fill
  rw [dif_pos hm]
  show V m c main_v0 _ = m ((c : Thread nD τ).loc main_arg1) _
  refine Eq.trans ?_ (boxes_at m c b q ⟨j.val * 1024 + n.val, h⟩)
  congr 1
  funext a
  fin_cases a
  · apply Fin.ext
    show cc0_transform_2 (grid0.coords t) 0 * 1 + 1 * 0 = b.val
    omega
  · apply Fin.ext
    show cc0_transform_2 (grid0.coords t) 1 * 4 + 1 * q.val = q.val
    omega
  · apply Fin.ext
    show cc0_transform_2 (grid0.coords t) 2 * 1024 + 1 * n.val = j.val * 1024 + n.val
    omega

theorem sizes_staged (t : Fin cfg0.N) (b : Fin 8) (q : Fin 2) : iblk m c 0 t (ix2 b q) = (argsOf m c).sz b q := by
  show V m c main_arg2 _ = m ((c : Thread nD τ).loc main_arg2) _
  rw [V_main_arg2]
  congr 1
  funext a
  fin_cases a
  · apply Fin.ext
    show 0 * 8 + 1 * b.val = b.val
    omega
  · apply Fin.ext
    show 0 * 2 + 1 * q.val = q.val
    omega

end Cert.Proof.KernelIdeal
end
-- ==== Proof.KernelIdealRun.lean ====
/-
  The idealized kernel's run with its results named: the scratch buffers carried from point to point, the three result
  arrays written back once, at the last.
-/
module

public import proofs.«01_k».proof.Proof.PointRun
public import proofs.«01_k».proof.Proof.Staged
public import Idealize.ShloMosaic.Lib.Pipeline.ValueKit

@[expose] public section

noncomputable section

namespace Cert.Proof.KernelIdeal

open Cert.KernelIdeal Cert.KernelIdeal.Gen Cert.Proof.Nms

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

set_option maxRecDepth 16384

local notation "𝕄" => MT nD τ sig Unit (Elt Ideal) ℕ (UR sig nD τ) ℕ

variable (m : (ℓ : Loc nD τ sig) → Buf (Elt Ideal) ℓ) (g : Dev nD → PrngReg)

/-- The scratch buffers after `T` points, and the rest the region holds. -/
def held_at (A : Args) (c : Dev nD) (T : ℕ) : sProp 𝕄 :=
  iprop(scratch c (Memref.whole cc0_scratch0) (Memref.whole cc0_scratch1) (Memref.whole cc0_scratch2) (Memref.whole cc0_scratch3) A T
    ∗ ∃ r, prngReg c r)

/-- The proof data: the arrays as the region finds them, what the body leaves named. -/
def tracked : (p : Fin 1) → (c : Dev nD) → Dat τ (Elt Ideal) Unit ℕ (UR sig nD τ) ℕ (cfgs p) c
  | 0, c =>
    { A := fun w => V m c (Pipeline.arrRef spec0 w)
      after := fun
        | 0 => fun t => iblk m c 0 t
        | 1 => fun t => win0_1.fill (grid0.coords t) default (iblk m c 1 t)
        | 2 => fun t => win0_2.fill (grid0.coords t) default (iblk m c 2 t)
        | 3 => fun _ => outLabels (argsOf m c)
        | 4 => fun _ => outBoxes (argsOf m c)
        | 5 => fun _ => outScores (argsOf m c)
        | ⟨_ + 6, h⟩ => absurd h (Nat.not_lt.2 (Nat.le_add_left _ _))
      Φ := fun t => held_at (argsOf m c) c t.val
      q := fun _ => fullShare
      owed := fun _ => 0 }

theorem before_sizes (c : Dev nD) (t : Fin cfg0.N) (d) : (tracked m 0 c).before 0 t d = iblk m c 0 t :=
  Gen.before0_0_of m (tracked m 0 c) rfl (fun _ => rfl) t d

theorem before_logits (c : Dev nD) (t : Fin cfg0.N) (d) : (tracked m 0 c).before 1 t d = win0_1.fill (grid0.coords t) d (iblk m c 1 t) := by
  unfold Pipeline.Dat.before
  rw [if_pos (fetch0_1 t)]
  rfl

theorem before_boxes (c : Dev nD) (t : Fin cfg0.N) (d) : (tracked m 0 c).before 2 t d = win0_2.fill (grid0.coords t) d (iblk m c 2 t) := by
  unfold Pipeline.Dat.before
  rw [if_pos (fetch0_2 t)]
  rfl

/-- A point's place in the order. -/
theorem coords_order : ∀ t : Fin cfg0.N, (grid0.coords t 0).val * 20 + (grid0.coords t 1).val = t.val := by
  decide +kernel

variable (he : ∀ c b, ∃ r : ℝ, extent (argsOf m c) b = r)

/-- A point that is not the last, over the staging buffers the region hands it. -/
theorem core_mid (c : Dev nD) (t : Fin cfg0.N) (R : sProp 𝕄) (B3 : Vec Ideal S8x20 .i32 → Vec Ideal S8x20 .i32)
    (B4 : Vec Ideal S8x20x4 .f32 → Vec Ideal S8x20x4 .f32) (B5 : Vec Ideal S8x20 .f32 → Vec Ideal S8x20 .f32)
    (hc3 : ¬ k0_cond3 (grid0.coords t) = 1#1) :
    iprop(held_at (argsOf m c) c t.val ∗ R ∗ (∃ d : Vec Ideal S8x2 .i32, owns (c : Thread nD τ) (win0_0.stage (cfg0.slots t 0)) fullShare (iblk m c 0 t)) ∗ (∃ d : Vec Ideal S1x1024x80 .f32, owns (c : Thread nD τ) (win0_1.stage (cfg0.slots t 1)) fullShare (win0_1.fill (grid0.coords t) d (iblk m c 1 t))) ∗ (∃ d : Vec Ideal S1x4x1024 .f32, owns (c : Thread nD τ) (win0_2.stage (cfg0.slots t 2)) fullShare (win0_2.fill (grid0.coords t) d (iblk m c 2 t))) ∗ (∃ d : Vec Ideal S8x20 .i32, owns (c : Thread nD τ) (win0_3.stage (cfg0.slots t 3)) fullShare (B3 d)) ∗ (∃ d : Vec Ideal S8x20x4 .f32, owns (c : Thread nD τ) (win0_4.stage (cfg0.slots t 4)) fullShare (B4 d)) ∗ (∃ d : Vec Ideal S8x20 .f32, owns (c : Thread nD τ) (win0_5.stage (cfg0.slots t 5)) fullShare (B5 d)))
    ⊢ wp frame (wpE (defs₀ (F := Ideal)) Variants.none c none) Set.univ (bodyAt0 t) fun _ =>
      iprop(held_at (argsOf m c) c (t.val + 1) ∗ R ∗ owns (c : Thread nD τ) (win0_0.stage (cfg0.slots t 0)) fullShare (iblk m c 0 t) ∗ (∃ d : Vec Ideal S1x1024x80 .f32, owns (c : Thread nD τ) (win0_1.stage (cfg0.slots t 1)) fullShare (win0_1.fill (grid0.coords t) d (iblk m c 1 t))) ∗ (∃ d : Vec Ideal S1x4x1024 .f32, owns (c : Thread nD τ) (win0_2.stage (cfg0.slots t 2)) fullShare (win0_2.fill (grid0.coords t) d (iblk m c 2 t))) ∗ (∃ d : Vec Ideal S8x20 .i32, owns (c : Thread nD τ) (win0_3.stage (cfg0.slots t 3)) fullShare (B3 d)) ∗ (∃ d : Vec Ideal S8x20x4 .f32, owns (c : Thread nD τ) (win0_4.stage (cfg0.slots t 4)) fullShare (B4 d)) ∗ (∃ d : Vec Ideal S8x20 .f32, owns (c : Thread nD τ) (win0_5.stage (cfg0.slots t 5)) fullShare (B5 d))) := by
  have ho : (grid0.coords t 0).val * 20 + (grid0.coords t 1).val = t.val := coords_order t
  unfold held_at
  simp only [owns]
  rw [show (win0_0.stage (cfg0.slots t 0)).view.set = Finset.univ from (hstage0_0 ((cfg0.slots t 0).cast nbuf0_0)).set_eq_univ]
  rw [show (win0_1.stage (cfg0.slots t 1)).view.set = Finset.univ from (hstage0_1 ((cfg0.slots t 1).cast nbuf0_1)).set_eq_univ]
  rw [show (win0_2.stage (cfg0.slots t 2)).view.set = Finset.univ from (hstage0_2 ((cfg0.slots t 2).cast nbuf0_2)).set_eq_univ]
  rw [show (win0_3.stage (cfg0.slots t 3)).view.set = Finset.univ from (hstage0_3 ((cfg0.slots t 3).cast nbuf0_3)).set_eq_univ]
  rw [show (win0_4.stage (cfg0.slots t 4)).view.set = Finset.univ from (hstage0_4 ((cfg0.slots t 4).cast nbuf0_4)).set_eq_univ]
  rw [show (win0_5.stage (cfg0.slots t 5)).view.set = Finset.univ from (hstage0_5 ((cfg0.slots t 5).cast nbuf0_5)).set_eq_univ]
  iintro ⟨⟨⟨%f6, %f7, %f8, %f9, %hP, H6, H7, H8, H9⟩, HP⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  have hS : ∀ b q, (win0_0.stage (cfg0.slots t 0)).view.read (Elt Ideal) f0 (ix2 b q) = (argsOf m c).sz b q := fun b q => by
    rw [e0]; exact sizes_staged m c t b q
  have hL : Logits (argsOf m c) (grid0.coords t 0) (grid0.coords t 1) ((win0_1.stage (cfg0.slots t 1)).view.read (Elt Ideal) f1) := by
    rw [e1]; exact logits_staged m c t _ _ rfl rfl d1
  have hB : Boxes (argsOf m c) (grid0.coords t 0) (grid0.coords t 1) ((win0_2.stage (cfg0.slots t 2)).view.read (Elt Ideal) f2) := by
    rw [e2]; exact boxes_staged m c t _ _ rfl rfl d2
  rw [← ho] at hP ⊢
  iapply (point_run c (grid0.coords t) (win0_0.stage (cfg0.slots t 0)) _ (win0_1.stage (cfg0.slots t 1)) _ (win0_2.stage (cfg0.slots t 2)) _ (win0_3.stage (cfg0.slots t 3)) _ (win0_4.stage (cfg0.slots t 4)) _ (win0_5.stage (cfg0.slots t 5)) _ (Memref.whole cc0_scratch0) _ (Memref.whole cc0_scratch1) _ (Memref.whole cc0_scratch2) _ (Memref.whole cc0_scratch3) _ f0 f1 f2 f6 f7 f8 f9 rfl rfl hS hL hB hP hc3 _)
  isplitl [H0]; · iexact H0
  isplitl [H1]; · iexact H1
  isplitl [H2]; · iexact H2
  isplitl [H6]; · iexact H6
  isplitl [H7]; · iexact H7
  isplitl [H8]; · iexact H8
  isplitl [H9]; · iexact H9
  iintro ⟨H0, H1, H2, HS⟩
  isplitl [HS HP]
  · isplitl [HS]; · iexact HS
    iexact HP
  isplitl [HO]; · iexact HO
  isplitl [H0]; · iexists f0; isplitr; (· ipureintro; exact e0); iexact H0
  isplitl [H1]; · iexists d1; iexists f1; isplitr; (· ipureintro; exact e1); iexact H1
  isplitl [H2]; · iexists d2; iexists f2; isplitr; (· ipureintro; exact e2); iexact H2
  isplitl [H3]; · iexists d3; iexists f3; isplitr; (· ipureintro; exact e3); iexact H3
  isplitl [H4]; · iexists d4; iexists f4; isplitr; (· ipureintro; exact e4); iexact H4
  iexists d5; iexists f5; isplitr; (· ipureintro; exact e5); iexact H5

include he in
/-- The last point. -/
theorem core_last (c : Dev nD) (t : Fin cfg0.N) (R : sProp 𝕄) (B3 : Vec Ideal S8x20 .i32 → Vec Ideal S8x20 .i32)
    (B4 : Vec Ideal S8x20x4 .f32 → Vec Ideal S8x20x4 .f32) (B5 : Vec Ideal S8x20 .f32 → Vec Ideal S8x20 .f32)
    (hc3 : k0_cond3 (grid0.coords t) = 1#1) :
    iprop(held_at (argsOf m c) c t.val ∗ R ∗ (∃ d : Vec Ideal S8x2 .i32, owns (c : Thread nD τ) (win0_0.stage (cfg0.slots t 0)) fullShare (iblk m c 0 t)) ∗ (∃ d : Vec Ideal S1x1024x80 .f32, owns (c : Thread nD τ) (win0_1.stage (cfg0.slots t 1)) fullShare (win0_1.fill (grid0.coords t) d (iblk m c 1 t))) ∗ (∃ d : Vec Ideal S1x4x1024 .f32, owns (c : Thread nD τ) (win0_2.stage (cfg0.slots t 2)) fullShare (win0_2.fill (grid0.coords t) d (iblk m c 2 t))) ∗ (∃ d : Vec Ideal S8x20 .i32, owns (c : Thread nD τ) (win0_3.stage (cfg0.slots t 3)) fullShare (B3 d)) ∗ (∃ d : Vec Ideal S8x20x4 .f32, owns (c : Thread nD τ) (win0_4.stage (cfg0.slots t 4)) fullShare (B4 d)) ∗ (∃ d : Vec Ideal S8x20 .f32, owns (c : Thread nD τ) (win0_5.stage (cfg0.slots t 5)) fullShare (B5 d)))
    ⊢ wp frame (wpE (defs₀ (F := Ideal)) Variants.none c none) Set.univ (bodyAt0 t) fun _ =>
      iprop(held_at (argsOf m c) c (t.val + 1) ∗ R ∗ owns (c : Thread nD τ) (win0_0.stage (cfg0.slots t 0)) fullShare (iblk m c 0 t) ∗ (∃ d : Vec Ideal S1x1024x80 .f32, owns (c : Thread nD τ) (win0_1.stage (cfg0.slots t 1)) fullShare (win0_1.fill (grid0.coords t) d (iblk m c 1 t))) ∗ (∃ d : Vec Ideal S1x4x1024 .f32, owns (c : Thread nD τ) (win0_2.stage (cfg0.slots t 2)) fullShare (win0_2.fill (grid0.coords t) d (iblk m c 2 t))) ∗ owns (c : Thread nD τ) (win0_3.stage (cfg0.slots t 3)) fullShare (outLabels (argsOf m c)) ∗ owns (c : Thread nD τ) (win0_4.stage (cfg0.slots t 4)) fullShare (outBoxes (argsOf m c)) ∗ owns (c : Thread nD τ) (win0_5.stage (cfg0.slots t 5)) fullShare (outScores (argsOf m c))) := by
  have ho : (grid0.coords t 0).val * 20 + (grid0.coords t 1).val = t.val := coords_order t
  unfold held_at
  simp only [owns]
  rw [show (win0_0.stage (cfg0.slots t 0)).view.set = Finset.univ from (hstage0_0 ((cfg0.slots t 0).cast nbuf0_0)).set_eq_univ]
  rw [show (win0_1.stage (cfg0.slots t 1)).view.set = Finset.univ from (hstage0_1 ((cfg0.slots t 1).cast nbuf0_1)).set_eq_univ]
  rw [show (win0_2.stage (cfg0.slots t 2)).view.set = Finset.univ from (hstage0_2 ((cfg0.slots t 2).cast nbuf0_2)).set_eq_univ]
  rw [show (win0_3.stage (cfg0.slots t 3)).view.set = Finset.univ from (hstage0_3 ((cfg0.slots t 3).cast nbuf0_3)).set_eq_univ]
  rw [show (win0_4.stage (cfg0.slots t 4)).view.set = Finset.univ from (hstage0_4 ((cfg0.slots t 4).cast nbuf0_4)).set_eq_univ]
  rw [show (win0_5.stage (cfg0.slots t 5)).view.set = Finset.univ from (hstage0_5 ((cfg0.slots t 5).cast nbuf0_5)).set_eq_univ]
  iintro ⟨⟨⟨%f6, %f7, %f8, %f9, %hP, H6, H7, H8, H9⟩, HP⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  have hS : ∀ b q, (win0_0.stage (cfg0.slots t 0)).view.read (Elt Ideal) f0 (ix2 b q) = (argsOf m c).sz b q := fun b q => by
    rw [e0]; exact sizes_staged m c t b q
  have hL : Logits (argsOf m c) (grid0.coords t 0) (grid0.coords t 1) ((win0_1.stage (cfg0.slots t 1)).view.read (Elt Ideal) f1) := by
    rw [e1]; exact logits_staged m c t _ _ rfl rfl d1
  have hB : Boxes (argsOf m c) (grid0.coords t 0) (grid0.coords t 1) ((win0_2.stage (cfg0.slots t 2)).view.read (Elt Ideal) f2) := by
    rw [e2]; exact boxes_staged m c t _ _ rfl rfl d2
  rw [← ho] at hP ⊢
  iapply (point_last c (grid0.coords t) (win0_0.stage (cfg0.slots t 0)) _ (win0_1.stage (cfg0.slots t 1)) _ (win0_2.stage (cfg0.slots t 2)) _ (win0_3.stage (cfg0.slots t 3)) _ (win0_4.stage (cfg0.slots t 4)) _ (win0_5.stage (cfg0.slots t 5)) _ (Memref.whole cc0_scratch0) _ (Memref.whole cc0_scratch1) _ (Memref.whole cc0_scratch2) _ (Memref.whole cc0_scratch3) _ f0 f1 f2 f3 f4 f5 f6 f7 f8 f9 rfl rfl hS hL hB hP (he c) hc3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, ⟨%g3, H3, %r3⟩, ⟨%g4, H4, %r4⟩, ⟨%g5, H5, %r5⟩, HS⟩
  isplitl [HS HP]
  · isplitl [HS]; · iexact HS
    iexact HP
  isplitl [HO]; · iexact HO
  isplitl [H0]; · iexists f0; isplitr; (· ipureintro; exact e0); iexact H0
  isplitl [H1]; · iexists d1; iexists f1; isplitr; (· ipureintro; exact e1); iexact H1
  isplitl [H2]; · iexists d2; iexists f2; isplitr; (· ipureintro; exact e2); iexact H2
  isplitl [H3]; · iexists g3; isplitr; (· ipureintro; exact r3); iexact H3
  isplitl [H4]; · iexists g4; isplitr; (· ipureintro; exact r4); iexact H4
  iexists g5; isplitr; (· ipureintro; exact r5); iexact H5

/-- A clipped window handed back as it was fetched. -/
theorem cut1 (c : Dev nD) (t : Fin cfg0.N) : win0_1.cut (grid0.coords t) ((tracked m 0 c).after 1 t) = iblk m c 1 t :=
  win0_1.cut_fill _ _ _

theorem cut2 (c : Dev nD) (t : Fin cfg0.N) : win0_2.cut (grid0.coords t) ((tracked m 0 c).after 2 t) = iblk m c 2 t :=
  win0_2.cut_fill _ _ _

include he in
theorem tracked_obligation (c : Dev nD) :
    BodyObligationLoose (tracked m 0 c) (defs₀ (F := Ideal)) Variants.none () Set.univ := fun t => by
  have hi : ∀ w : Fin 6, 3 ≤ w.val → idle0 w (grid0.coords t) = !(k0_cond3 (grid0.coords t) == 1#1) := by
    intro w hw
    fin_cases w <;> first | rfl | (exfalso; revert hw; decide)
  rw [bigSep_W0, bigSep_W0]
  rw [show (tracked m 0 c).owesAt () t.succ = (tracked m 0 c).owesAt () t.castSucc from rfl]
  have h3 := hi 3 (by decide)
  have h4 := hi 4 (by decide)
  have h5 := hi 5 (by decide)
  by_cases hc3 : k0_cond3 (grid0.coords t) = 1#1
  · have e : (!(k0_cond3 (grid0.coords t) == 1#1)) = false := by rw [hc3]; rfl
    rw [e] at h3 h4 h5
    simp only [h3, h4, h5, before_sizes, before_logits, before_boxes]
    have k1 := cut1 m c t
    have k2 := cut2 m c t
    rw [show (win0 1).cut (grid0.coords t) ((tracked m 0 c).after 1 t) = iblk m c 1 t from k1,
      show (win0 2).cut (grid0.coords t) ((tracked m 0 c).after 2 t) = iblk m c 2 t from k2]
    exact core_last m he c t _ _ _ _ hc3
  · have e : (!(k0_cond3 (grid0.coords t) == 1#1)) = true := by
      rw [Bool.not_eq_true', beq_eq_false_iff_ne]; exact hc3
    have hn : ¬ t.val % 160 = 159 := by
      intro h
      apply hc3
      have ho : (grid0.coords t 0).val * 20 + (grid0.coords t 1).val = t.val := coords_order t
      have h0 : (grid0.coords t 0).val < 8 := (grid0.coords t 0).isLt
      have h1 : (grid0.coords t 1).val < 20 := (grid0.coords t 1).isLt
      rw [cond3_iff]
      omega
    have n3 : (win0 3).flush t = false := by rw [Bool.eq_false_iff]; exact fun h => hn ((flush0_3 t).mp h)
    have n4 : (win0 4).flush t = false := by rw [Bool.eq_false_iff]; exact fun h => hn ((flush0_4 t).mp h)
    have n5 : (win0 5).flush t = false := by rw [Bool.eq_false_iff]; exact fun h => hn ((flush0_5 t).mp h)
    rw [e] at h3 h4 h5
    simp only [h3, h4, h5, n3, n4, n5, before_sizes, before_logits, before_boxes]
    have k1 := cut1 m c t
    have k2 := cut2 m c t
    rw [show (win0 1).cut (grid0.coords t) ((tracked m 0 c).after 1 t) = iblk m c 1 t from k1,
      show (win0 2).cut (grid0.coords t) ((tracked m 0 c).after 2 t) = iblk m c 2 t from k2]
    exact core_mid m c t _ _ _ _ hc3

theorem labels_array (c : Dev nD) : (tracked m 0 c).arrAt 3 cfg0.N = outLabels (argsOf m c) := by
  refine (tracked m 0 c).arrAt_eq_of_after_last 3 (⟨159, by decide⟩ : Fin grid0.N) (by decide +kernel) _ fun j => ?_
  rfl

theorem boxes_array (c : Dev nD) : (tracked m 0 c).arrAt 4 cfg0.N = outBoxes (argsOf m c) := by
  refine (tracked m 0 c).arrAt_eq_of_after_last 4 (⟨159, by decide⟩ : Fin grid0.N) (by decide +kernel) _ fun j => ?_
  rfl

theorem scores_array (c : Dev nD) : (tracked m 0 c).arrAt 5 cfg0.N = outScores (argsOf m c) := by
  refine (tracked m 0 c).arrAt_eq_of_after_last 5 (⟨159, by decide⟩ : Fin grid0.N) (by decide +kernel) _ fun j => ?_
  rfl

include he in
/-- The run: every launch whose extents are real ends with the specification's results, its arguments as they were. -/
theorem value_run : θ_run defs (onTc (τ := τ) (main (F := Ideal))) ⟨m, fun _ => 0, g⟩ (fun r => (∀ c : Dev nD,
      r.2.mem ((c.tc : Thread nD τ).loc main_v1_0) = outLabels (argsOf m c)
      ∧ r.2.mem ((c.tc : Thread nD τ).loc main_v1_1) = outBoxes (argsOf m c)
      ∧ r.2.mem ((c.tc : Thread nD τ).loc main_v1_2) = outScores (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_track cfgs (tracked m) 0 launch0 defs₀ Variants.none m g main (tracked_obligation m he)
    (fun c => (tracked m 0 c).share_full fun _ => rfl) (fun _ _ => rfl) (V m) (hmain m Variants.none) (fun _ _ => rfl)
    (fun c => by
      show _ ⊢ held_at (argsOf m c) c 0
      unfold Pipeline.ΦA held_at
      rw [scopedRest0_eq]
      iintro ⟨⟨⟨%f6, H6⟩, ⟨%f7, H7⟩, ⟨%f8, H8⟩, ⟨%f9, H9⟩⟩, HP⟩
      isplitr [HP]
      · iexists f6; iexists f7; iexists f8; iexists f9
        isplitr; · ipureintro; exact Progress.zero _ _
        isplitl [H6]; · iexact H6
        isplitl [H7]; · iexact H7
        isplitl [H8]; · iexact H8
        iexact H9
      iexact HP)
    (fun c => by
      show held_at (argsOf m c) c (Fin.last cfg0.N).val ⊢ _
      unfold Pipeline.ΦA held_at
      rw [scopedRest0_eq]
      iintro ⟨⟨%f6, %f7, %f8, %f9, -, H6, H7, H8, H9⟩, HP⟩
      isplitr [HP]
      · isplitl [H6]; · iexists f6; iexact H6
        isplitl [H7]; · iexists f7; iexact H7
        isplitl [H8]; · iexists f8; iexact H8
        iexists f9; iexact H9
      iexact HP)
    _
    (fun r h => ⟨fun c => ⟨((h.1 c).1 3).trans (labels_array m c), ((h.1 c).1 4).trans (boxes_array m c), ((h.1 c).1 5).trans (scores_array m c),
      ((h.1 c).1 1).trans (((tracked m 0 c).arrAt_in 1 rfl _).trans (V_main_arg0 m c)),
      ((h.1 c).2 main_arg1 (Pipeline.mem_restRefs_of main_arg1 (by decide) (by decide))).trans (V_main_arg1 m c),
      ((h.1 c).1 0).trans (((tracked m 0 c).arrAt_in 0 rfl _).trans (V_main_arg2 m c))⟩, h.2⟩)

end Cert.Proof.KernelIdeal
end
-- ==== Proof.TopOne.lean ====
/-
  The one greatest of a row by a stable sort: its first greatest entry, and that entry's position.
-/
module

public import proofs.«01_k».proof.Proof.Spec
public import proofs.«01_k».proof.ReferenceIdeal
public import proofs.«01_k».proof.Proof.Gen.ReferenceIdeal
public import Idealize.ShloMosaic.Lib.SortFacts

@[expose] public section

noncomputable section

namespace Cert.Proof.Nms

open Idealize.ShloMosaic

variable {n : ℕ} (x : Fin n → EReal) (R : Fin n → Fin n → Bool) (hR : ∀ i k, R i k = decide (x k < x i))

include hR in
theorem head_stableSort : ∀ (l : List (Fin n)), l.Pairwise (· < ·) → l ≠ [] →
    ∃ i m, stableSort R l = i :: m ∧ i ∈ l ∧ (∀ k ∈ l, x k ≤ x i) ∧ ∀ k ∈ l, k < i → x k < x i
  | [], _, h => absurd rfl h
  | [a], _, _ => ⟨a, [], rfl, List.mem_singleton_self a, fun k hk => by rw [List.mem_singleton.mp hk],
      fun k hk hl => absurd hl (by rw [List.mem_singleton.mp hk]; exact lt_irrefl _)⟩
  | a :: b :: l, hp, _ => by
    rw [List.pairwise_cons] at hp
    obtain ⟨i, m, hs, hi, hle, hlt⟩ := head_stableSort (b :: l) hp.2 (List.cons_ne_nil _ _)
    rw [stableSort, hs, insertBefore]
    by_cases h : x a < x i
    · rw [if_pos (by rw [hR]; exact decide_eq_true h)]
      refine ⟨i, _, rfl, List.mem_cons_of_mem _ hi, fun k hk => ?_, fun k hk hl => ?_⟩
      · rcases List.mem_cons.mp hk with rfl | hk
        · exact h.le
        · exact hle k hk
      · rcases List.mem_cons.mp hk with rfl | hk
        · exact h
        · exact hlt k hk hl
    · rw [if_neg (by rw [hR]; simpa using h)]
      rw [not_lt] at h
      refine ⟨a, _, rfl, List.mem_cons_self, fun k hk => ?_, fun k hk hl => ?_⟩
      · rcases List.mem_cons.mp hk with rfl | hk
        · exact le_rfl
        · exact (hle k hk).trans h
      · rcases List.mem_cons.mp hk with rfl | hk
        · exact absurd hl (lt_irrefl _)
        · exact absurd hl (not_lt.mpr (hp.1 k hk).le)

include hR in
theorem sortedFrom_first [NeZero n] (k : Fin n) (hk : k.val = 0) : IsFirst x (sortedFrom R k) := by
  obtain ⟨i, m, hs, -, hle, hlt⟩ := head_stableSort x R hR (List.finRange n) (List.pairwise_lt_finRange n)
    (fun h => NeZero.ne n (by simpa using congrArg List.length h))
  have e : sortedFrom R k = i := by
    unfold sortedFrom
    obtain ⟨_, hk'⟩ := k
    subst hk
    simp only [sortPositions, List.get_eq_getElem, hs]
    rfl
  rw [e]
  exact ⟨fun j => hle j (List.mem_finRange j), fun j => hlt j (List.mem_finRange j)⟩

theorem cmpfTotal_gt (a b : EReal) :
    (FloatOps.cmpfTotal (F := Ideal) (φ := .f32) .gt a b == 1#1) = decide (b < a) := by
  show (Ideal.cmp .ogt a b == 1#1) = _
  by_cases h : b < a <;> simp [Ideal.cmp, h, gt_iff_lt]

end Cert.Proof.Nms

namespace Cert.Proof.Ref

open Idealize.ShloMosaic Cert.ReferenceIdeal Cert.ReferenceIdeal.Gen Cert.Proof.Nms

set_option maxRecDepth 16384

section

variable (x : FVec Ideal S8x20000x80 .f32) (b : Fin 8) (n : Fin 20000)

theorem along3 (hd : 2 < S8x20000x80.rank) (q : Fin 80) (k : Fin (S8x20000x80.size ⟨2, hd⟩)) :
    Shape.Idx.along (s := S8x20000x80) (ix3 b n q) ⟨2, hd⟩ k = ix3 b n k := by
  funext a
  fin_cases a <;> rfl

theorem topK3 : (Host.topK S8x20000x1 2 (FloatOps.cmpfTotal .gt) x sliceFits_S8x20000x80_S8x20000x1).1 (ix3 b n 0)
      = x (ix3 b n (best fun k => x (ix3 b n k)))
    ∧ (Host.topK S8x20000x1 2 (FloatOps.cmpfTotal .gt) x sliceFits_S8x20000x80_S8x20000x1).2 (ix3 b n 0)
      = BitVec.ofNat 32 (best fun k => x (ix3 b n k)).val := by
  have hd : 2 < S8x20000x80.rank := by decide
  have e : (fun a : Fin S8x20000x80.rank => (⟨0 + ((ix3 b n (0 : Fin 1) : S8x20000x1.Idx)
      (a.cast sliceFits_S8x20000x80_S8x20000x1.1.symm)).val, Nat.lt_of_lt_of_le (Nat.add_lt_add_left
        ((ix3 b n (0 : Fin 1) : S8x20000x1.Idx) _).isLt _) (sliceFits_S8x20000x80_S8x20000x1.2 a)⟩ : Fin (S8x20000x80.size a)))
      = ix3 b n (0 : Fin 80) := by
    funext a
    apply Fin.ext
    fin_cases a <;> simp <;> rfl
  have hf : sortedFrom (fun k k' => FloatOps.cmpfTotal (F := Ideal) (φ := .f32) .gt (x (ix3 b n k)) (x (ix3 b n k')) == 1#1) (0 : Fin 80)
      = best fun k => x (ix3 b n k) :=
    (sortedFrom_first (fun k => x (ix3 b n k)) _ (fun i k => cmpfTotal_gt _ _) 0 rfl).eq (best_isFirst _)
  constructor
  · unfold Host.topK Host.sort2 extractStridedSlice
    simp only [dif_pos hd]
    rw [e]
    simp only [along3]
    exact congrArg (fun k => x (ix3 b n k)) hf
  · unfold Host.topK Host.sort2 extractStridedSlice
    simp only [dif_pos hd]
    rw [e]
    simp only [along3]
    exact congrArg (fun k : Fin 80 => BitVec.ofNat 32 k.val) hf

end

section

variable (x : FVec Ideal S8x20000 .f32) (b : Fin 8)

theorem along2 (hd : 1 < S8x20000.rank) (q : Fin 20000) (k : Fin (S8x20000.size ⟨1, hd⟩)) :
    Shape.Idx.along (s := S8x20000) (ix2 b q) ⟨1, hd⟩ k = ix2 b k := by
  funext a
  fin_cases a <;> rfl

theorem topK2 : (Host.topK S8x1 1 (FloatOps.cmpfTotal .gt) x sliceFits_S8x20000_S8x1).1 (ix2 b 0)
      = x (ix2 b (best fun k => x (ix2 b k)))
    ∧ (Host.topK S8x1 1 (FloatOps.cmpfTotal .gt) x sliceFits_S8x20000_S8x1).2 (ix2 b 0)
      = BitVec.ofNat 32 (best fun k => x (ix2 b k)).val := by
  have hd : 1 < S8x20000.rank := by decide
  have e : (fun a : Fin S8x20000.rank => (⟨0 + ((ix2 b (0 : Fin 1) : S8x1.Idx)
      (a.cast sliceFits_S8x20000_S8x1.1.symm)).val, Nat.lt_of_lt_of_le (Nat.add_lt_add_left
        ((ix2 b (0 : Fin 1) : S8x1.Idx) _).isLt _) (sliceFits_S8x20000_S8x1.2 a)⟩ : Fin (S8x20000.size a)))
      = ix2 b (⟨0, by decide⟩ : Fin 20000) := by
    funext a
    apply Fin.ext
    fin_cases a <;> simp <;> rfl
  have hf : sortedFrom (fun k k' => FloatOps.cmpfTotal (F := Ideal) (φ := .f32) .gt (x (ix2 b k)) (x (ix2 b k')) == 1#1) (⟨0, by decide⟩ : Fin 20000)
      = best fun k => x (ix2 b k) :=
    (sortedFrom_first (fun k => x (ix2 b k)) _ (fun i k => cmpfTotal_gt _ _) _ rfl).eq (best_isFirst _)
  constructor
  · unfold Host.topK Host.sort2 extractStridedSlice
    simp only [dif_pos hd]
    rw [e]
    simp only [along2]
    exact congrArg (fun k => x (ix2 b k)) hf
  · unfold Host.topK Host.sort2 extractStridedSlice
    simp only [dif_pos hd]
    rw [e]
    simp only [along2]
    exact congrArg (fun k : Fin 20000 => BitVec.ofNat 32 k.val) hf

end

end Cert.Proof.Ref
end
-- ==== Proof.RefIndex.lean ====
/-
  The reference's reads at a box's number and writes of a row, at an index.
-/
module

public import proofs.«01_k».proof.Proof.TopOne
public import proofs.«01_k».proof.Proof.Gen.ReferenceIdeal.Step
public import Idealize.ShloMosaic.Lib.Pointwise
public import Idealize.ShloMosaic.Lib.Pipeline.Value
public import Idealize.ShloMosaic.PureOps.Ideal
public import Idealize.ShloMosaic.PureOps.Ideal.Laws

@[expose] public section

noncomputable section

namespace Cert.Proof.Ref

open Idealize.ShloMosaic Cert.ReferenceIdeal Cert.ReferenceIdeal.Gen Cert.Proof.Nms
open Cert.ReferenceIdeal.Step

set_option maxRecDepth 16384

/-- A number that is not below zero is not wrapped around. -/
theorem wrap_small (k : ℕ) (h : k < 2147483648) (w : BitVec 32) :
    Scalar.select (IntOp.cmpi .slt (BitVec.ofNat 32 k) 0#32) w (BitVec.ofNat 32 k) = BitVec.ofNat 32 k := by
  have e : IntOp.cmpi .slt (BitVec.ofNat 32 k) 0#32 = 0#1 := by
    unfold IntOp.cmpi
    simp only [BitVec.slt]
    rw [toInt_small k h, decide_eq_false (by rw [toInt_small 0 (by decide)]; omega)]
    rfl
  rw [e]
  rfl

theorem clamp_small (k N : ℕ) (h : k ≤ N) (hN : N < 2147483648) : min (BitVec.ofNat 32 k).toInt.toNat N = k := by
  rw [toInt_small k (by omega), Int.toNat_natCast]
  exact Nat.min_eq_left h

section

variable {α : Type} (idx : IVec S8x2 32) (b : Fin 8) (p : Fin 20000)
  (h0 : idx (ix2 b 0) = BitVec.ofNat 32 b.val) (h1 : idx (ix2 b 1) = BitVec.ofNat 32 p.val)

include h0 h1

theorem gather3 (x : S8x20000x4.Idx → α) (q : Fin 4) :
    Host.gather gather_S8x20000x4_S8x2_S8x4_1_01_n_n_01_1_114 x idx (ix2 b q) = x (ix3 b p q) := by
  unfold Host.gather
  refine congrArg x (funext fun a => Fin.ext ?_)
  show GatherDims.start _ _ idx a + GatherDims.batchCoord _ _ a + GatherDims.offCoord _ _ a = _
  rw [GatherDims.batchCoord_eq_zero _ _ _ (fun h => by cases h)]
  unfold GatherDims.start
  fin_cases a
  · rw [GatherDims.offCoord_eq_zero _ _ _ (fun h => ((GatherDims.mem_sKept _ _).mp h).1 (by decide)), dif_pos (by decide)]
    have e : GatherDims.siIdx gather_S8x20000x4_S8x2_S8x4_1_01_n_n_01_1_114 (ix2 b q : S8x4.Idx) ⟨0, by decide⟩ = ix2 b 0 := by
      funext c; apply Fin.ext; fin_cases c <;> rfl
    refine Eq.trans (congrArg (fun z => min (idx z).toInt.toNat 7 + 0 + 0) e) ?_
    rw [h0, clamp_small _ _ (by have := b.isLt; omega) (by decide)]
    rfl
  · rw [GatherDims.offCoord_eq_zero _ _ _ (fun h => ((GatherDims.mem_sKept _ _).mp h).1 (by decide)), dif_pos (by decide)]
    have e : GatherDims.siIdx gather_S8x20000x4_S8x2_S8x4_1_01_n_n_01_1_114 (ix2 b q : S8x4.Idx) ⟨1, by decide⟩ = ix2 b 1 := by
      funext c; apply Fin.ext; fin_cases c <;> rfl
    refine Eq.trans (congrArg (fun z => min (idx z).toInt.toNat 19999 + 0 + 0) e) ?_
    rw [h1, clamp_small _ _ (by have := p.isLt; omega) (by decide)]
    rfl
  · rw [dif_neg (by decide)]
    unfold GatherDims.offCoord
    rw [dif_pos (by decide)]
    simp only [Nat.zero_add]
    rfl

theorem gather2 (x : S8x20000.Idx → α) :
    Host.gather gather_S8x20000_S8x2_S8_n_01_n_n_01_1_11 x idx (ix1 b) = x (ix2 b p) := by
  unfold Host.gather
  refine congrArg x (funext fun a => Fin.ext ?_)
  show GatherDims.start _ _ idx a + GatherDims.batchCoord _ _ a + GatherDims.offCoord _ _ a = _
  rw [GatherDims.batchCoord_eq_zero _ _ _ (fun h => by cases h)]
  unfold GatherDims.start
  fin_cases a
  · rw [GatherDims.offCoord_eq_zero _ _ _ (fun h => ((GatherDims.mem_sKept _ _).mp h).1 (by decide)), dif_pos (by decide)]
    have e : GatherDims.siIdx gather_S8x20000_S8x2_S8_n_01_n_n_01_1_11 (ix1 b : S8.Idx) ⟨0, by decide⟩ = ix2 b 0 := by
      funext c; apply Fin.ext; fin_cases c <;> rfl
    refine Eq.trans (congrArg (fun z => min (idx z).toInt.toNat 7 + 0 + 0) e) ?_
    rw [h0, clamp_small _ _ (by have := b.isLt; omega) (by decide)]
    rfl
  · rw [GatherDims.offCoord_eq_zero _ _ _ (fun h => ((GatherDims.mem_sKept _ _).mp h).1 (by decide)), dif_pos (by decide)]
    have e : GatherDims.siIdx gather_S8x20000_S8x2_S8_n_01_n_n_01_1_11 (ix1 b : S8.Idx) ⟨1, by decide⟩ = ix2 b 1 := by
      funext c; apply Fin.ext; fin_cases c <;> rfl
    refine Eq.trans (congrArg (fun z => min (idx z).toInt.toNat 19999 + 0 + 0) e) ?_
    rw [h1, clamp_small _ _ (by have := p.isLt; omega) (by decide)]
    rfl

end

section

variable {α : Type} (k : ℕ) (hk : k < 20) (r : Fin 20) (b : Fin 8)

include hk

theorem row2 (x : S20x8.Idx → α) (u : S1x8.Idx → α) (start : Fin S20x8.rank → ℤ) (h0 : start 0 = k) (h1 : start 1 = 0) :
    Host.dynamicUpdateSlice x u start updateFits_S20x8_S1x8 (ix2 r b)
      = if r.val = k then u (ix2 0 b) else x (ix2 r b) := by
  have hs : S20x8.Slices ![k, 0] S1x8 := ⟨rfl, fun a => by fin_cases a <;> simp <;> omega⟩
  rw [Host.dynamicUpdateSlice_eq_updateSlice x u start _ ![k, 0] (fun a => by
    fin_cases a
    · show (min (max (start 0) 0) 19).toNat = k
      rw [h0]; omega
    · show (min (max (start 1) 0) 0).toNat = 0
      rw [h1]; omega) hs]
  unfold updateSlice
  by_cases h : r.val = k
  · rw [if_pos h, dif_pos]
    · refine congrArg u (funext fun a => Fin.ext ?_)
      fin_cases a
      · show r.val - k = 0
        omega
      · rfl
    · intro a
      fin_cases a
      · show k ≤ r.val ∧ r.val < k + 1
        omega
      · show 0 ≤ b.val ∧ b.val < 0 + 8
        omega
  · rw [if_neg h, dif_neg]
    intro hin
    have := hin 0
    have : k ≤ r.val ∧ r.val < k + 1 := this
    omega

theorem row3 (x : S20x8x4.Idx → α) (u : S1x8x4.Idx → α) (start : Fin S20x8x4.rank → ℤ) (h0 : start 0 = k)
    (h1 : start 1 = 0) (h2 : start 2 = 0) (q : Fin 4) :
    Host.dynamicUpdateSlice x u start updateFits_S20x8x4_S1x8x4 (ix3 r b q)
      = if r.val = k then u (ix3 0 b q) else x (ix3 r b q) := by
  have hs : S20x8x4.Slices ![k, 0, 0] S1x8x4 := ⟨rfl, fun a => by fin_cases a <;> simp <;> omega⟩
  rw [Host.dynamicUpdateSlice_eq_updateSlice x u start _ ![k, 0, 0] (fun a => by
    fin_cases a
    · show (min (max (start 0) 0) 19).toNat = k
      rw [h0]; omega
    · show (min (max (start 1) 0) 0).toNat = 0
      rw [h1]; omega
    · show (min (max (start 2) 0) 0).toNat = 0
      rw [h2]; omega) hs]
  unfold updateSlice
  by_cases h : r.val = k
  · rw [if_pos h, dif_pos]
    · refine congrArg u (funext fun a => Fin.ext ?_)
      fin_cases a
      · show r.val - k = 0
        omega
      · rfl
      · rfl
    · intro a
      fin_cases a
      · show k ≤ r.val ∧ r.val < k + 1
        omega
      · show 0 ≤ b.val ∧ b.val < 0 + 8
        omega
      · show 0 ≤ q.val ∧ q.val < 0 + 4
        omega
  · rw [if_neg h, dif_neg]
    intro hin
    have := hin 0
    have : k ≤ r.val ∧ r.val < k + 1 := this
    omega

end

end Cert.Proof.Ref
end
-- ==== Proof.RefTrip.lean ====
/-
  One trip of the reference's loop, read at an index: it takes the specification's box, drops what overlaps it and
  writes the box's label, coordinates and score to its row of the stacks.
-/
module

public import proofs.«01_k».proof.Proof.RefIndex
public import Idealize.ShloMosaic.Lib.Tactic.CleanTypes

@[expose] public section

noncomputable section

namespace Cert.Proof.Ref

open Idealize.ShloMosaic Cert.ReferenceIdeal Cert.ReferenceIdeal.Gen Cert.Proof.Nms
open Cert.ReferenceIdeal.Step

set_option maxRecDepth 16384

/-- What the loop carries before trip `k`. -/
structure Good (A : Args) (k : ℕ) (s : State Ideal) : Prop where
  score : ∀ b n, s.main_v47_4 (ix2 b n) = scoreAt A b k n
  moved : ∀ b n q, s.main_v47_0 (ix3 b n q) = moved A b q n
  label : ∀ b n, s.main_v47_1 (ix2 b n) = lab A b n
  coord : ∀ b n q, s.main_v47_2 (ix3 b n q) = coord A b q n
  labels : ∀ b (r : Fin 20), r.val < k → s.main_v47_5 (ix2 r b) = lab A b (pick A b r.val)
  boxes : ∀ b (r : Fin 20) q, r.val < k → s.main_v47_6 (ix3 r b q) = Nms.coord A b q (pick A b r.val)
  scores : ∀ b (r : Fin 20), r.val < k → s.main_v47_7 (ix2 r b) = scoreAt A b r.val (pick A b r.val)

variable {A : Args} {k : ℕ} {s : State Ideal} (h : Good A k s) (b : Fin 8)

include h

theorem best_at : best (fun n => s.main_v47_4 (ix2 b n)) = pick A b k := by
  unfold pick
  exact congrArg best (funext fun n => h.score b n)

theorem index_at : b3 k s (ix1 b) = BitVec.ofNat 32 (pick A b k).val := by
  unfold b3 b1
  clean_types
  refine Eq.trans ?_ ((topK2 s.main_v47_4 b).2.trans (by rw [best_at h b]))
  pointwise []

theorem value_at : b2 k s (ix1 b) = scoreAt A b k (pick A b k) := by
  unfold b2 b0
  clean_types
  refine Eq.trans ?_ ((topK2 s.main_v47_4 b).1.trans (by rw [best_at h b, h.score]))
  pointwise []

theorem column21 : b21 k s (ix2 b 0) = BitVec.ofNat 32 b.val ∧ b21 k s (ix2 b 1) = BitVec.ofNat 32 (pick A b k).val := by
  have hi := index_at h b
  constructor
  · unfold b21 b20 b19 b11 b10 b9 b8 b7 b6 b5 b4
    clean_types
    pointwise []
    exact wrap_small _ (by have := b.isLt; omega) _
  · unfold b21 b20 b19 b18 b17 b16 b15 b14 b13 b12
    clean_types
    pointwise []
    rw [hi]
    exact wrap_small _ (by have := (pick A b k).isLt; omega) _

theorem column119 : b119 k s (ix2 b 0) = BitVec.ofNat 32 b.val ∧ b119 k s (ix2 b 1) = BitVec.ofNat 32 (pick A b k).val := by
  have hi := index_at h b
  constructor
  · unfold b119 b118 b117 b109 b108 b107 b106 b105 b104 b103 b102
    clean_types
    pointwise []
    exact wrap_small _ (by have := b.isLt; omega) _
  · unfold b119 b118 b117 b116 b115 b114 b113 b112 b111 b110
    clean_types
    pointwise []
    rw [hi]
    exact wrap_small _ (by have := (pick A b k).isLt; omega) _

theorem column138 : b138 k s (ix2 b 0) = BitVec.ofNat 32 b.val ∧ b138 k s (ix2 b 1) = BitVec.ofNat 32 (pick A b k).val := by
  have hi := index_at h b
  constructor
  · unfold b138 b137 b136 b128 b127 b126 b125 b124 b123 b122 b121
    clean_types
    pointwise []
    exact wrap_small _ (by have := b.isLt; omega) _
  · unfold b138 b137 b136 b135 b134 b133 b132 b131 b130 b129
    clean_types
    pointwise []
    rw [hi]
    exact wrap_small _ (by have := (pick A b k).isLt; omega) _

theorem taken_moved (q : Fin 4) : b22 k s (ix2 b q) = Nms.moved A b q (pick A b k) := by
  unfold b22
  exact (gather3 _ b (pick A b k) (column21 h b).1 (column21 h b).2 _ q).trans (h.moved b _ q)

theorem taken_label : b120 k s (ix1 b) = lab A b (pick A b k) := by
  unfold b120
  exact (gather2 _ b (pick A b k) (column119 h b).1 (column119 h b).2 _).trans (h.label b _)

theorem taken_coord (q : Fin 4) : b139 k s (ix2 b q) = Nms.coord A b q (pick A b k) := by
  unfold b139
  exact (gather3 _ b (pick A b k) (column138 h b).1 (column138 h b).2 _ q).trans (h.coord b _ q)

variable (n : Fin 20000)

theorem shared_at : b58 k s (ix2 b n) = shared A b (pick A b k) n := by
  have hm := taken_moved h b
  unfold b58 b57 b56 b55 b54 b53 b52 b51 b50 b49 b48 b47 b46 b45 b44 b43 b42 b41 b40 b39 b38 b37 b36 b35 b34 b33 b32 b31
    b30 b29 b28 b27 b26 b25 b24 b23
  clean_types
  pointwise []
  rw [hm, hm, hm, hm, h.moved, h.moved, h.moved, h.moved]
  unfold shared
  rw [max_comm 0, max_comm 0, min_comm (Nms.moved A b 2 (pick A b k)), min_comm (Nms.moved A b 3 (pick A b k)),
    max_comm (Nms.moved A b 0 (pick A b k)), max_comm (Nms.moved A b 1 (pick A b k))]

theorem areas_at : b82 k s (ix2 b n) = area A b (pick A b k) + area A b n := by
  have hm := taken_moved h b
  unfold b82 b81 b80 b79 b78 b77 b76 b75 b74 b73 b72 b71 b70 b69 b68 b67 b66 b65 b64 b63 b62 b61 b60 b59 b23
  clean_types
  pointwise []
  rw [hm, hm, hm, hm, h.moved, h.moved, h.moved, h.moved]
  rfl

theorem overlap_at : b87 k s (ix2 b n) = overlap A b (pick A b k) n := by
  have h1 := shared_at h b n
  have h2 := areas_at h b n
  unfold b87 b86 b85 b84 b83
  clean_types
  pointwise []
  rw [h1, h2]
  rfl

theorem scores_at : b101 k s (ix2 b n) = scoreAt A b (k + 1) n := by
  have h1 := overlap_at h b n
  have hi := index_at h b
  unfold b101 b100 b99 b98 b97 b96 b95 b94 b93 b92 b91 b90 b89 b88
  clean_types
  pointwise []
  rw [h1, hi, h.score]
  rw [ofBits_neg_inf]
  rw [scoreAt]
  beta_reduce
  have e : IntOp.cmpi .eq (BitVec.ofNat 32 n.val) (BitVec.ofNat 32 (pick A b k).val)
      = BitVec.ofBool (decide (n = pick A b k)) := by
    unfold IntOp.cmpi
    refine congrArg BitVec.ofBool ?_
    by_cases hn : n = pick A b k
    · rw [hn]
      simp
    · rw [decide_eq_false hn]
      refine beq_false_of_ne fun he => hn (Fin.ext ?_)
      have := congrArg BitVec.toNat he
      simp only [BitVec.toNat_ofNat] at this
      have h1 := n.isLt
      have h2 := (pick A b k).isLt
      rwa [Nat.mod_eq_of_lt (by omega), Nat.mod_eq_of_lt (by omega)] at this
  rw [e]
  unfold half
  change _ = if n = pick A b k then ⊥ else if Ideal.ofBits .f32 1056964608#32 < overlap A b (pick A b k) n then ⊥
    else scoreAt A b k n
  by_cases hn : n = pick A b k
  · rw [if_pos hn, decide_eq_true hn]
    by_cases ho : Ideal.ofBits .f32 1056964608#32 < overlap A b (pick A b k) n
    · rw [decide_eq_true ho]; rfl
    · rw [decide_eq_false ho]; rfl
  · rw [if_neg hn, decide_eq_false hn]
    by_cases ho : Ideal.ofBits .f32 1056964608#32 < overlap A b (pick A b k) n
    · rw [decide_eq_true ho, if_pos ho]; rfl
    · rw [decide_eq_false ho, if_neg ho]; rfl

omit n

variable (hk : k < 20) (r : Fin 20)

include hk

theorem labels_at : b142 k s (ix2 r b) = if r.val = k then lab A b (pick A b k) else s.main_v47_5 (ix2 r b) := by
  unfold b142 b141
  refine (row2 k hk r b _ _ _ (toInt_small k (by omega)) (toInt_small 0 (by decide))).trans ?_
  have e : b140 k s (ix2 0 b) = lab A b (pick A b k) := by
    have hl := taken_label h b
    unfold b140
    clean_types
    pointwise []
    exact hl
  rw [e]

theorem boxes_at (q : Fin 4) :
    b146 k s (ix3 r b q) = if r.val = k then Nms.coord A b q (pick A b k) else s.main_v47_6 (ix3 r b q) := by
  unfold b146 b145 b144
  refine (row3 k hk r b _ _ _ (toInt_small k (by omega)) (toInt_small 0 (by decide)) (toInt_small 0 (by decide)) q).trans ?_
  have e : b143 k s (ix3 0 b q) = Nms.coord A b q (pick A b k) := by
    have hl := taken_coord h b q
    unfold b143
    clean_types
    pointwise []
    exact hl
  rw [e]

theorem stack_at : b149 k s (ix2 r b) = if r.val = k then scoreAt A b k (pick A b k) else s.main_v47_7 (ix2 r b) := by
  unfold b149 b148
  refine (row2 k hk r b _ _ _ (toInt_small k (by omega)) (toInt_small 0 (by decide))).trans ?_
  have e : b147 k s (ix2 0 b) = scoreAt A b k (pick A b k) := by
    have hl := value_at h b
    unfold b147
    clean_types
    pointwise []
    exact hl
  rw [e]

omit b r

/-- A trip steps what the loop carries. -/
theorem good_step : Good A (k + 1) (step k s) where
  score b n := by rw [step_main_v47_4]; exact scores_at h b n
  moved b n q := h.moved b n q
  label b n := h.label b n
  coord b n q := h.coord b n q
  labels b r hr := by
    rw [step_main_v47_5, labels_at h b hk r]
    by_cases e : r.val = k
    · rw [if_pos e, e]
    · rw [if_neg e]; exact h.labels b r (by omega)
  boxes b r q hr := by
    rw [step_main_v47_6, boxes_at h b hk r q]
    by_cases e : r.val = k
    · rw [if_pos e, e]
    · rw [if_neg e]; exact h.boxes b r q (by omega)
  scores b r hr := by
    rw [step_main_v47_7, stack_at h b hk r]
    by_cases e : r.val = k
    · rw [if_pos e, e]
    · rw [if_neg e]; exact h.scores b r (by omega)

end Cert.Proof.Ref
end
-- ==== Proof.RefPrep.lean ====
/-
  What the reference computes before its loop, read at an index: corner coordinates, labels, scores and the shifted
  coordinates are the specification's.
-/
module

public import proofs.«01_k».proof.Proof.TopOne
public import proofs.«01_k».proof.Proof.Gen.ReferenceIdeal.Step
public import Idealize.ShloMosaic.Lib.Pointwise
public import Idealize.ShloMosaic.Lib.Tactic.CleanTypes
public import Idealize.ShloMosaic.PureOps.Ideal
public import Idealize.ShloMosaic.PureOps.Ideal.Laws

@[expose] public section

noncomputable section

namespace Cert.Proof.Ref

open Idealize.ShloMosaic Cert.ReferenceIdeal Cert.ReferenceIdeal.Gen Cert.Proof.Nms
open Cert.ReferenceIdeal.Step

set_option maxRecDepth 16384

variable (a0 : FVec Ideal S8x20000x80 .f32) (a1 : FVec Ideal S8x20000x4 .f32) (a2 : IVec S8x2 32)

/-- The arguments, as functions of their coordinates. -/
def argsOf : Args where
  lg b n q := a0 (ix3 b n q)
  bx b n q := a1 (ix3 b n q)
  sz b q := a2 (ix2 b q)

variable (b : Fin 8) (n : Fin 20000)

theorem coord_at (q : Fin 4) : A_main_v21 (F := Ideal) a0 a1 a2 (ix3 b n q) = coord (argsOf a0 a1 a2) b q n := by
  unfold A_main_v21 A_main_v20 A_main_v19 A_main_v18 A_main_v17 A_main_v16 A_main_v15 A_main_v14 A_main_v12 A_main_v11
    A_main_v9 A_main_v8 A_main_v6 A_main_v5 A_main_v3 A_main_v2 A_main_v1 A_main_v0
    K_main_v13 K_main_v10 K_main_v7 K_main_v4 K_main_cst K_main_cst_0 K_main_cst_1 K_main_cst_2
  clean_types
  fin_cases q <;> pointwise [] <;> rfl

theorem label_at : A_main_v23 (F := Ideal) a0 a1 a2 (ix2 b n) = lab (argsOf a0 a1 a2) b n := by
  unfold A_main_v23 A_main_indices
  clean_types
  refine Eq.trans ?_ (topK3 a0 b n).2
  pointwise []

theorem logit_at : A_main_v22 (F := Ideal) a0 a1 a2 (ix2 b n)
    = a0 (ix3 b n (cls (argsOf a0 a1 a2) b n)) := by
  unfold A_main_v22 A_main_values
  clean_types
  refine Eq.trans ?_ (topK3 a0 b n).1
  pointwise []

theorem score_at : A_main_v32 (F := Ideal) a0 a1 a2 (ix2 b n) = score (argsOf a0 a1 a2) b n := by
  have h := logit_at a0 a1 a2 b n
  unfold A_main_v32 A_main_v31 A_main_v29 A_main_v27 A_main_v25 A_main_v24 K_main_v30 K_main_v28 K_main_v26
    K_main_call0_v1 K_main_call0_v0 K_main_cst_3 K_main_cst_4 K_main_cst_5 K_main_cst_6
  clean_types
  pointwise []
  have e : id (constant (F := Ideal) S_ FTy.f32 4286578688#32) ix0 = ⊥ := ofBits_neg_inf
  rw [h, e]
  rfl

theorem extent_at : A_main_v36 (F := Ideal) a0 a1 a2 (ix1 b) = extent (argsOf a0 a1 a2) b := by
  unfold A_main_v36 A_main_v34 A_main_v33 K_main_v35 K_main_cst_7 K_main_cst_8
  clean_types
  pointwise []
  rw [ofBits_neg_inf]
  unfold extent
  refine congrArg (fun f : Fin 20000 × Fin 4 → EReal => Finset.univ.fold max ⊥ f + 1) (funext fun x => ?_)
  rw [coord_at a0 a1 a2 b x.1 x.2]
  rfl

theorem moved_at (q : Fin 4) : A_main_v43 (F := Ideal) a0 a1 a2 (ix3 b n q) = moved (argsOf a0 a1 a2) b q n := by
  have h1 := coord_at a0 a1 a2 b n q
  have h2 := label_at a0 a1 a2 b n
  have h3 := extent_at a0 a1 a2 b
  unfold A_main_v43 A_main_v42 A_main_v41 A_main_v40 A_main_v39 A_main_v38 A_main_v37
  clean_types
  pointwise []
  rw [h1, h2, h3]
  rfl

end Cert.Proof.Ref
end
-- ==== Proof.RefValue.lean ====
/-
  The reference's results are the specification's.
-/
module

public import proofs.«01_k».proof.Proof.RefTrip
public import proofs.«01_k».proof.Proof.RefPrep
public import proofs.«01_k».proof.Proof.RefRun

@[expose] public section

noncomputable section

namespace Cert.Proof.Ref

open Idealize.ShloMosaic Cert.ReferenceIdeal Cert.ReferenceIdeal.Gen Cert.Proof.Nms
open Cert.ReferenceIdeal.Step

set_option maxRecDepth 16384

section

variable (a0 : FVec Ideal S8x20000x80 .f32) (a1 : FVec Ideal S8x20000x4 .f32) (a2 : IVec S8x2 32)

/-- What the first trip finds. -/
theorem good_init : Good (argsOf a0 a1 a2) 0 (init a0 a1 a2) where
  score b n := score_at a0 a1 a2 b n
  moved b n q := moved_at a0 a1 a2 b n q
  label b n := label_at a0 a1 a2 b n
  coord b n q := coord_at a0 a1 a2 b n q
  labels _ _ h := absurd h (Nat.not_lt_zero _)
  boxes _ _ _ h := absurd h (Nat.not_lt_zero _)
  scores _ _ h := absurd h (Nat.not_lt_zero _)

/-- What every trip finds. -/
theorem good_states : ∀ k, k ≤ 20 → Good (argsOf a0 a1 a2) k (states a0 a1 a2 k)
  | 0, _ => good_init a0 a1 a2
  | k + 1, h => good_step (good_states k (by omega)) (by omega)

end

section

variable {A : Args} {s : State Ideal} (h : Good A 20 s) (b : Fin 8) (r : Fin 20)

include h

theorem labels_of : R_main_v48 s (ix2 b r) = lab A b (pick A b r.val) := by
  have e := h.labels b r r.isLt
  unfold R_main_v48
  clean_types
  pointwise []
  exact e

theorem boxes_of (q : Fin 4) : R_main_v49 s (ix3 b r q) = Nms.coord A b q (pick A b r.val) := by
  have e := h.boxes b r q r.isLt
  unfold R_main_v49
  clean_types
  pointwise []
  exact e

theorem scores_of : R_main_v50 s (ix2 b r) = scoreAt A b r.val (pick A b r.val) := by
  have e := h.scores b r r.isLt
  unfold R_main_v50
  clean_types
  pointwise []
  exact e

end

end Cert.Proof.Ref
end
-- ==== Proof.Finite.lean ====
/-
  Where every box is finite, so is the greatest magnitude of an image's coordinates.
-/
module

public import proofs.«01_k».proof.Proof.Spec

@[expose] public section

noncomputable section

namespace Cert.Proof.Nms

open Idealize.ShloMosaic

theorem half_real : ∃ r : ℝ, half = r := by
  unfold half
  simp [Ideal.ofBits, Ideal.ieee]
  exact ⟨_, (EReal.coe_mul _ _).symm⟩

theorem real_of_ne {x : EReal} (h : x ≠ ⊤) (h' : x ≠ ⊥) : ∃ r : ℝ, x = r := ⟨x.toReal, (EReal.coe_toReal h h').symm⟩

theorem real_of_abs {x : EReal} (h : max x (-x) < ⊤) : ∃ r : ℝ, x = r := by
  refine real_of_ne (fun e => ?_) (fun e => ?_)
  · rw [e] at h
    simp at h
  · rw [e] at h
    simp at h

/-- The greatest of real numbers is real. -/
theorem fold_real {ι : Type} [Fintype ι] (f : ι → EReal) (i : ι) (hf : ∀ x, ∃ r : ℝ, f x = r) :
    ∃ r : ℝ, Finset.univ.fold max ⊥ f = r := by
  refine real_of_ne (ne_of_lt ?_) fun e => ?_
  · rw [Finset.fold_max_lt]
    refine ⟨bot_lt_top, fun x _ => ?_⟩
    obtain ⟨r, hr⟩ := hf x
    rw [hr]
    exact EReal.coe_lt_top r
  · have := le_fold f (f i) i le_rfl
    rw [e] at this
    obtain ⟨r, hr⟩ := hf i
    rw [hr] at this
    simp at this

variable (A : Args) (b : Fin 8) (hA : ∀ n q, ∃ r : ℝ, A.bx b n q = r)

include hA

theorem coord_real (q : Fin 4) (n : Fin 20000) : ∃ r : ℝ, coord A b q n = r := by
  obtain ⟨h, hh⟩ := half_real
  unfold coord scale
  split
  · obtain ⟨x, hx⟩ := hA n q
    obtain ⟨y, hy⟩ := hA n ⟨2 + q.val, by omega⟩
    rw [hx, hy, hh]
    exact ⟨(x - h * y) * _, by push_cast; rfl⟩
  · obtain ⟨x, hx⟩ := hA n ⟨q.val - 2, by omega⟩
    obtain ⟨y, hy⟩ := hA n q
    rw [hx, hy, hh]
    exact ⟨(x + h * y) * _, by push_cast; rfl⟩

theorem extent_real : ∃ r : ℝ, extent A b = r := by
  unfold extent
  obtain ⟨r, hr⟩ := fold_real (fun x : Fin 20000 × Fin 4 => max (coord A b x.2 x.1) (-coord A b x.2 x.1))
    (⟨0, Nat.zero_lt_succ _⟩, ⟨0, Nat.zero_lt_succ _⟩) fun x => by
      obtain ⟨r, hr⟩ := coord_real A b hA x.2 x.1
      rw [hr, ← EReal.coe_neg]
      exact ⟨max r (-r), (EReal.coe_strictMono.monotone.map_max).symm⟩
  rw [hr]
  exact ⟨r + 1, by push_cast; rfl⟩

end Cert.Proof.Nms
end
-- ==== Proof.Agree.lean ====
/-
  The two programs end with equal results where every box is finite.
-/
module

public import proofs.«01_k».proof.Defs
public import proofs.«01_k».proof.Proof.KernelIdealRun
public import proofs.«01_k».proof.Proof.RefValue
public import proofs.«01_k».proof.Proof.Finite

@[expose] public section

noncomputable section

namespace Cert.Proof

open Idealize.ShloMosaic Idealize.ShloMosaic.TcCoe Idealize.SL.Sem Cert.Proof.Nms

set_option maxRecDepth 16384

/-- The side condition of the precondition's broadcast. -/
theorem pre_facts : Cert.Pre_finite_boxes.Facts := ⟨by decide⟩

section

variable [Cert.Pre_finite_boxes.Facts]
  (m : (ℓ : Loc KernelIdeal.nD KernelIdeal.τ KernelIdeal.sig) → Buf (Elt Ideal) ℓ) (hm : Cert.Pre_KernelIdeal_finite_boxes m)

include hm

/-- The precondition: every coordinate of every box is a real number. -/
theorem boxes_real (c : Dev KernelIdeal.nD) (b : Fin 8) (n : Fin 20000) (q : Fin 4) :
    ∃ r : ℝ, (KernelIdeal.argsOf m c).bx b n q = r := by
  have h := congrFun (hm c) (ix3 b n q)
  apply real_of_abs
  unfold Cert.Pre_finite_boxes.fn at h
  pointwise [] at h
  have e : Ideal.ofBits .f32 2139095040#32 = ⊤ := by
    simp [Ideal.ofBits, Ideal.ieee]
  rw [e] at h
  by_contra hn
  have hf : ¬ FloatOps.absf (F := Ideal) (φ := .f32) (m (c.tc.loc KernelIdeal.main_arg1) (ix3 b n q)) < (⊤ : EReal) := hn
  rw [decide_eq_false hf] at h
  exact absurd h (by decide)

end

section

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
  (h0 : m' ((c.tc : Thread ReferenceIdeal.nD ReferenceIdeal.τ).loc ReferenceIdeal.main_arg0) = m ((c.tc : Thread KernelIdeal.nD KernelIdeal.τ).loc KernelIdeal.main_arg0))
  (h1 : m' ((c.tc : Thread ReferenceIdeal.nD ReferenceIdeal.τ).loc ReferenceIdeal.main_arg1) = m ((c.tc : Thread KernelIdeal.nD KernelIdeal.τ).loc KernelIdeal.main_arg1))
  (h2 : m' ((c.tc : Thread ReferenceIdeal.nD ReferenceIdeal.τ).loc ReferenceIdeal.main_arg2) = m ((c.tc : Thread KernelIdeal.nD KernelIdeal.τ).loc KernelIdeal.main_arg2))

include h0 h1 h2

/-- From equal arguments the reference's last state holds the specification's stacks of the kernel's arguments. -/
theorem good_last : Ref.Good (KernelIdeal.argsOf m c) 20 (Ref.statesOf m' c 20) := by
  have h := Ref.good_states (m' ((c.tc : Thread ReferenceIdeal.nD ReferenceIdeal.τ).loc ReferenceIdeal.main_arg0))
    (m' ((c.tc : Thread ReferenceIdeal.nD ReferenceIdeal.τ).loc ReferenceIdeal.main_arg1))
    (m' ((c.tc : Thread ReferenceIdeal.nD ReferenceIdeal.τ).loc ReferenceIdeal.main_arg2)) 20 le_rfl
  have e : Ref.argsOf (m' ((c.tc : Thread ReferenceIdeal.nD ReferenceIdeal.τ).loc ReferenceIdeal.main_arg0))
    (m' ((c.tc : Thread ReferenceIdeal.nD ReferenceIdeal.τ).loc ReferenceIdeal.main_arg1))
    (m' ((c.tc : Thread ReferenceIdeal.nD ReferenceIdeal.τ).loc ReferenceIdeal.main_arg2)) = KernelIdeal.argsOf m c := by
    rw [h0, h1, h2]
    rfl
  rw [← e]
  exact h

theorem labels_eq : Cert.ReferenceIdeal.Step.R_main_v48 (Ref.statesOf m' c 20) = KernelIdeal.outLabels (KernelIdeal.argsOf m c) := by
  funext i
  idx_vars i
  exact Ref.labels_of (good_last m m' c h0 h1 h2) _ _

theorem boxes_eq : Cert.ReferenceIdeal.Step.R_main_v49 (Ref.statesOf m' c 20) = KernelIdeal.outBoxes (KernelIdeal.argsOf m c) := by
  funext i
  idx_vars i
  exact Ref.boxes_of (good_last m m' c h0 h1 h2) _ _ _

theorem scores_eq : Cert.ReferenceIdeal.Step.R_main_v50 (Ref.statesOf m' c 20) = KernelIdeal.outScores (KernelIdeal.argsOf m c) := by
  funext i
  idx_vars i
  exact Ref.scores_of (good_last m m' c h0 h1 h2) _ _

end

/-- The two programs end with equal results. -/
theorem agree : Cert.algebraic_KernelIdeal_ReferenceIdeal_pre_finite_boxes (hKernelIdeal := Cert.KernelIdeal.Gen.facts)
    (hReferenceIdeal := Cert.ReferenceIdeal.Gen.facts) (hPre_finite_boxes := pre_facts) := by
  intro m g m' g' hm hargs
  have := pre_facts
  refine ⟨fun c => KernelIdeal.outLabels (KernelIdeal.argsOf m c), fun c => KernelIdeal.outBoxes (KernelIdeal.argsOf m c),
    fun c => KernelIdeal.outScores (KernelIdeal.argsOf m c), ?_, ?_⟩
  · exact (θ_run _ _ _).mono (fun r h => h.1)
      (KernelIdeal.value_run m g fun c b => extent_real _ _ fun n q => boxes_real m hm c b n q)
  · refine (θ_run _ _ _).mono (fun r h c => ?_) (Ref.run_states m' g')
    obtain ⟨h0, h1, h2⟩ := hargs c
    obtain ⟨r0, r1, r2, ra⟩ := h c
    exact ⟨r0.trans (labels_eq m m' c h0 h1 h2), r1.trans (boxes_eq m m' c h0 h1 h2), r2.trans (scores_eq m m' c h0 h1 h2), ra⟩

end Cert.Proof
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Step
public import proofs.«01_k».proof.Proof.KernelFrame
public import proofs.«01_k».proof.Proof.KernelIdealFrame
public import proofs.«01_k».proof.Proof.RefRun
public import proofs.«01_k».proof.Proof.Agree

@[expose] public section

noncomputable section

namespace Cert.Proof

open Idealize.ShloMosaic Idealize.SL.Sem

/-- The claims of this certificate. -/
theorem claim : Cert.Claim :=
  ⟨Cert.Kernel.Gen.facts, Cert.KernelIdeal.Gen.facts, Cert.ReferenceIdeal.Gen.facts, pre_facts,
    fun m g _ => Kernel.frame_run m g,
    fun m g _ => KernelIdeal.frame_run m g,
    fun m g _ => KernelIdeal.frame_run m g,
    fun m g _ => Ref.frame_run m g,
    fun m g _ => Ref.frame_run m g,
    trivial,
    agree⟩

end Cert.Proof

end
